-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x1024 : Shape := ⟨3, ![2, 1024, 1024]⟩
abbrev S1024 : Shape := ⟨1, ![1024]⟩
abbrev S1024x4096 : Shape := ⟨2, ![1024, 4096]⟩
abbrev S2048x1x4 : Shape := ⟨3, ![2048, 1, 4]⟩
abbrev S2048 : Shape := ⟨1, ![2048]⟩
abbrev S2048x16 : Shape := ⟨2, ![2048, 16]⟩
abbrev S2048x2048 : Shape := ⟨2, ![2048, 2048]⟩
abbrev S2048x1024 : Shape := ⟨2, ![2048, 1024]⟩
abbrev S1x1024 : Shape := ⟨2, ![1, 1024]⟩
abbrev S2048x4096 : Shape := ⟨2, ![2048, 4096]⟩
abbrev S512x1024 : Shape := ⟨2, ![512, 1024]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩
abbrev S2048x4 : Shape := ⟨2, ![2048, 4]⟩
abbrev S4x2048 : Shape := ⟨2, ![4, 2048]⟩
abbrev S16x2048 : Shape := ⟨2, ![16, 2048]⟩
abbrev S1x2048 : Shape := ⟨2, ![1, 2048]⟩
abbrev S256x2048 : Shape := ⟨2, ![256, 2048]⟩
abbrev S256x1024 : Shape := ⟨2, ![256, 1024]⟩
abbrev S256x16 : Shape := ⟨2, ![256, 16]⟩
abbrev S2x256x2048 : Shape := ⟨3, ![2, 256, 2048]⟩
abbrev S255x2048 : Shape := ⟨2, ![255, 2048]⟩
abbrev S2x2048 : Shape := ⟨2, ![2, 2048]⟩
abbrev S254x2048 : Shape := ⟨2, ![254, 2048]⟩
abbrev S3x2048 : Shape := ⟨2, ![3, 2048]⟩
abbrev S253x2048 : Shape := ⟨2, ![253, 2048]⟩
abbrev S16x256 : Shape := ⟨2, ![16, 256]⟩
abbrev S16x16 : Shape := ⟨2, ![16, 16]⟩
abbrev S1x256x2048 : Shape := ⟨3, ![1, 256, 2048]⟩
abbrev S16x1 : Shape := ⟨2, ![16, 1]⟩
abbrev S1x16x2048 : Shape := ⟨3, ![1, 16, 2048]⟩

abbrev nBuf : Space → Nat
  | .hbm => 27
  | .vmem => 33
  | .smem => 0
  | _ => 0

abbrev bufTy : (tb : Table) → Fin (tcTables nBuf tb) → BufTy
  | .hbm, ⟨0, _⟩ => ⟨S2x1024x1024, .f32⟩
  | .hbm, ⟨1, _⟩ => ⟨S1024, .f32⟩
  | .hbm, ⟨2, _⟩ => ⟨S1024, .f32⟩
  | .hbm, ⟨3, _⟩ => ⟨S1024x4096, .f32⟩
  | .hbm, ⟨4, _⟩ => ⟨S2048x1x4, .f32⟩
  | .hbm, ⟨5, _⟩ => ⟨S2048, .f32⟩
  | .hbm, ⟨6, _⟩ => ⟨S2048x16, .f32⟩
  | .hbm, ⟨7, _⟩ => ⟨S2048x16, .f32⟩
  | .hbm, ⟨8, _⟩ => ⟨S2048x2048, .f32⟩
  | .hbm, ⟨9, _⟩ => ⟨S2048, .f32⟩
  | .hbm, ⟨10, _⟩ => ⟨S2048x16, .f32⟩
  | .hbm, ⟨11, _⟩ => ⟨S2048, .f32⟩
  | .hbm, ⟨12, _⟩ => ⟨S2048x1024, .f32⟩
  | .hbm, ⟨13, _⟩ => ⟨S2048x1024, .f32⟩
  | .hbm, ⟨14, _⟩ => ⟨S1x1024, .f32⟩
  | .hbm, ⟨15, _⟩ => ⟨S1x1024, .f32⟩
  | .hbm, ⟨16, _⟩ => ⟨S2048x4096, .f32⟩
  | .hbm, ⟨17, _⟩ => ⟨S2048x4, .f32⟩
  | .hbm, ⟨18, _⟩ => ⟨S4x2048, .f32⟩
  | .hbm, ⟨19, _⟩ => ⟨S2048x16, .f32⟩
  | .hbm, ⟨20, _⟩ => ⟨S2048x16, .f32⟩
  | .hbm, ⟨21, _⟩ => ⟨S16x2048, .f32⟩
  | .hbm, ⟨22, _⟩ => ⟨S1x2048, .f32⟩
  | .hbm, ⟨23, _⟩ => ⟨S1x2048, .f32⟩
  | .hbm, ⟨24, _⟩ => ⟨S1x2048, .f32⟩
  | .hbm, ⟨25, _⟩ => ⟨S2048x1024, .f32⟩
  | .hbm, ⟨26, _⟩ => ⟨S2x1024x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x2048, .f32⟩
  | .local _ .vmem, ⟨5, _⟩ => ⟨S1024x2048, .f32⟩
  | .local _ .vmem, ⟨6, _⟩ => ⟨S512x2048, .f32⟩
  | .local _ .vmem, ⟨7, _⟩ => ⟨S512x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x1024, .f32⟩
  | .local _ .vmem, ⟨13, _⟩ => ⟨S256x1024, .f32⟩
  | .local _ .vmem, ⟨14, _⟩ => ⟨S4x2048, .f32⟩
  | .local _ .vmem, ⟨15, _⟩ => ⟨S1x2048, .f32⟩
  | .local _ .vmem, ⟨16, _⟩ => ⟨S2048x2048, .f32⟩
  | .local _ .vmem, ⟨17, _⟩ => ⟨S1x2048, .f32⟩
  | .local _ .vmem, ⟨18, _⟩ => ⟨S2048x16, .f32⟩
  | .local _ .vmem, ⟨19, _⟩ => ⟨S2048x16, .f32⟩
  | .local _ .vmem, ⟨20, _⟩ => ⟨S16x2048, .f32⟩
  | .local _ .vmem, ⟨21, _⟩ => ⟨S1x2048, .f32⟩
  | .local _ .vmem, ⟨22, _⟩ => ⟨S2048x1024, .f32⟩
  | .local _ .vmem, ⟨23, _⟩ => ⟨S256x1024, .f32⟩
  | .local _ .vmem, ⟨24, _⟩ => ⟨S256x1024, .f32⟩
  | .local _ .vmem, ⟨25, _⟩ => ⟨S16x2048, .f32⟩
  | .local _ .vmem, ⟨26, _⟩ => ⟨S16x2048, .f32⟩
  | .local _ .vmem, ⟨27, _⟩ => ⟨S256x2048, .f32⟩
  | .local _ .vmem, ⟨28, _⟩ => ⟨S256x2048, .f32⟩
  | .local _ .vmem, ⟨29, _⟩ => ⟨S256x2048, .f32⟩
  | .local _ .vmem, ⟨30, _⟩ => ⟨S256x16, .f32⟩
  | .local _ .vmem, ⟨31, _⟩ => ⟨S256x2048, .f32⟩
  | .local _ .vmem, ⟨32, _⟩ => ⟨S2x256x2048, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc1_stg11_0 : Ref sig .tc := ⟨.vmem, 22, rfl⟩
abbrev cc1_stg12_0 : Ref sig .tc := ⟨.vmem, 23, rfl⟩
abbrev cc1_stg12_1 : Ref sig .tc := ⟨.vmem, 24, rfl⟩
abbrev cc1_scratch0 : Ref sig .tc := ⟨.vmem, 25, rfl⟩
abbrev cc1_scratch1 : Ref sig .tc := ⟨.vmem, 26, rfl⟩
abbrev cc1_scratch2 : Ref sig .tc := ⟨.vmem, 27, rfl⟩
abbrev cc1_scratch3 : Ref sig .tc := ⟨.vmem, 28, rfl⟩
abbrev cc1_scratch4 : Ref sig .tc := ⟨.vmem, 29, rfl⟩
abbrev cc1_scratch5 : Ref sig .tc := ⟨.vmem, 30, rfl⟩
abbrev cc1_scratch6 : Ref sig .tc := ⟨.vmem, 31, rfl⟩
abbrev cc1_scratch7 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21
abbrev cc1_sem11_0 : DmaSem sig := 22
abbrev cc1_sem12_0 : DmaSem sig := 23
abbrev cc1_sem12_1 : DmaSem sig := 24

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 4], ![false, false]⟩

@[reducible] def k1_t1_loop : Scf.Loop 32 :=
  let c0_i32_49 : BitVec 32 := 0#32
  let c16_i32_50 : BitVec 32 := 16#32
  let v116 : BitVec 32 := Scalar.addi c0_i32_49 c16_i32_50
  let c1_i32_51 : BitVec 32 := 1#32
  ⟨c0_i32_49, v116, c1_i32_51⟩
def k1_mult1 (k1_t1 : Fin k1_t1_loop.trips) : BitVec 32 :=
  let c0_i32_49 : BitVec 32 := 0#32
  let c1_i32_51 : BitVec 32 := 1#32
  let arg23 : BitVec 32 := Scf.iv c0_i32_49 c1_i32_51 k1_t1
  let c16_i32_78 : BitVec 32 := 16#32
  let v152 : BitVec 32 := Scalar.muli arg23 c16_i32_78
  v152
def k1_mult2 (k1_t1 : Fin k1_t1_loop.trips) : BitVec 32 :=
  let c0_i32_49 : BitVec 32 := 0#32
  let c1_i32_51 : BitVec 32 := 1#32
  let arg23 : BitVec 32 := Scf.iv c0_i32_49 c1_i32_51 k1_t1
  let c1_i32_79 : BitVec 32 := 1#32
  let v154 : BitVec 32 := Scalar.maxsi arg23 c1_i32_79
  let c1_i32_80 : BitVec 32 := 1#32
  let v155 : BitVec 32 := Scalar.subi v154 c1_i32_80
  let c16_i32_81 : BitVec 32 := 16#32
  let v156 : BitVec 32 := Scalar.muli v155 c16_i32_81
  v156
def k1_mult3 (k1_t1 : Fin k1_t1_loop.trips) : BitVec 32 :=
  let c0_i32_49 : BitVec 32 := 0#32
  let c1_i32_51 : BitVec 32 := 1#32
  let arg23 : BitVec 32 := Scf.iv c0_i32_49 c1_i32_51 k1_t1
  let c1_i32_83 : BitVec 32 := 1#32
  let v159 : BitVec 32 := Scalar.maxsi arg23 c1_i32_83
  let c1_i32_84 : BitVec 32 := 1#32
  let v160 : BitVec 32 := Scalar.subi v159 c1_i32_84
  let c16_i32_85 : BitVec 32 := 16#32
  let v161 : BitVec 32 := Scalar.muli v160 c16_i32_85
  v161
def k1_off1 (k1_t1 : Fin k1_t1_loop.trips) : Fin 2 → Nat :=
  let c0_i32_49 : BitVec 32 := 0#32
  let c1_i32_51 : BitVec 32 := 1#32
  let arg23 : BitVec 32 := Scf.iv c0_i32_49 c1_i32_51 k1_t1
  let c1_i32_83 : BitVec 32 := 1#32
  let v159 : BitVec 32 := Scalar.maxsi arg23 c1_i32_83
  let c1_i32_84 : BitVec 32 := 1#32
  let v160 : BitVec 32 := Scalar.subi v159 c1_i32_84
  let c16_i32_85 : BitVec 32 := 16#32
  let v161 : BitVec 32 := Scalar.muli v160 c16_i32_85
  let v162 : BitVec 32 := v161
  let v163 : Index := Scalar.indexCast v162
  let c0_86 : Index := 0#32
  ![v163.toNat, 0]
def k1_off2 (k1_t1 : Fin k1_t1_loop.trips) : Fin 3 → Nat :=
  let c1_i32_87 : BitVec 32 := 1#32
  let c0_i32_49 : BitVec 32 := 0#32
  let c1_i32_51 : BitVec 32 := 1#32
  let arg23 : BitVec 32 := Scf.iv c0_i32_49 c1_i32_51 k1_t1
  let c1_i32_82 : BitVec 32 := 1#32
  let v158 : BitVec 32 := Scalar.andi arg23 c1_i32_82
  let v167 : BitVec 32 := Scalar.subi c1_i32_87 v158
  let v168 : Index := Scalar.indexCast v167
  let c0_88 : Index := 0#32
  let c0_89 : Index := 0#32
  ![v168.toNat, 0, 0]
def k1_off3 (k1_t1 : Fin k1_t1_loop.trips) : Fin 2 → Nat :=
  let c0_i32_49 : BitVec 32 := 0#32
  let c1_i32_51 : BitVec 32 := 1#32
  let arg23 : BitVec 32 := Scf.iv c0_i32_49 c1_i32_51 k1_t1
  let c1_i32_79 : BitVec 32 := 1#32
  let v154 : BitVec 32 := Scalar.maxsi arg23 c1_i32_79
  let c1_i32_80 : BitVec 32 := 1#32
  let v155 : BitVec 32 := Scalar.subi v154 c1_i32_80
  let c16_i32_81 : BitVec 32 := 16#32
  let v156 : BitVec 32 := Scalar.muli v155 c16_i32_81
  let v157 : BitVec 32 := v156
  let v172 : Index := Scalar.indexCast v157
  let c0_91 : Index := 0#32
  ![v172.toNat, 0]
def k1_off4 (k1_t1 : Fin k1_t1_loop.trips) : Fin 2 → Nat :=
  let c0_i32_49 : BitVec 32 := 0#32
  let c1_i32_51 : BitVec 32 := 1#32
  let arg23 : BitVec 32 := Scf.iv c0_i32_49 c1_i32_51 k1_t1
  let c16_i32_78 : BitVec 32 := 16#32
  let v152 : BitVec 32 := Scalar.muli arg23 c16_i32_78
  let v153 : BitVec 32 := v152
  let v176 : Index := Scalar.indexCast v153
  let c0_92 : Index := 0#32
  ![v176.toNat, 0]
def k1_off5 (k1_t1 : Fin k1_t1_loop.trips) : Fin 3 → Nat :=
  let c0_i32_49 : BitVec 32 := 0#32
  let c1_i32_51 : BitVec 32 := 1#32
  let arg23 : BitVec 32 := Scf.iv c0_i32_49 c1_i32_51 k1_t1
  let c1_i32_82 : BitVec 32 := 1#32
  let v158 : BitVec 32 := Scalar.andi arg23 c1_i32_82
  let v195 : Index := Scalar.indexCast v158
  let c0_94 : Index := 0#32
  let c0_95 : Index := 0#32
  ![v195.toNat, 0, 0]
def k1_off6 (k1_t1 : Fin k1_t1_loop.trips) : Fin 3 → Nat :=
  let c0_i32_49 : BitVec 32 := 0#32
  let c1_i32_51 : BitVec 32 := 1#32
  let arg23 : BitVec 32 := Scf.iv c0_i32_49 c1_i32_51 k1_t1
  let c1_i32_82 : BitVec 32 := 1#32
  let v158 : BitVec 32 := Scalar.andi arg23 c1_i32_82
  let v210 : Index := Scalar.indexCast v158
  let c16 : Index := 16#32
  let c0_96 : Index := 0#32
  ![v210.toNat, 16, 0]
def k1_off7 (k1_t1 : Fin k1_t1_loop.trips) : Fin 3 → Nat :=
  let c0_i32_49 : BitVec 32 := 0#32
  let c1_i32_51 : BitVec 32 := 1#32
  let arg23 : BitVec 32 := Scf.iv c0_i32_49 c1_i32_51 k1_t1
  let c1_i32_82 : BitVec 32 := 1#32
  let v158 : BitVec 32 := Scalar.andi arg23 c1_i32_82
  let v225 : Index := Scalar.indexCast v158
  let c32 : Index := 32#32
  let c0_97 : Index := 0#32
  ![v225.toNat, 32, 0]
def k1_off8 (k1_t1 : Fin k1_t1_loop.trips) : Fin 3 → Nat :=
  let c0_i32_49 : BitVec 32 := 0#32
  let c1_i32_51 : BitVec 32 := 1#32
  let arg23 : BitVec 32 := Scf.iv c0_i32_49 c1_i32_51 k1_t1
  let c1_i32_82 : BitVec 32 := 1#32
  let v158 : BitVec 32 := Scalar.andi arg23 c1_i32_82
  let v240 : Index := Scalar.indexCast v158
  let c48 : Index := 48#32
  let c0_98 : Index := 0#32
  ![v240.toNat, 48, 0]
def k1_off9 (k1_t1 : Fin k1_t1_loop.trips) : Fin 3 → Nat :=
  let c0_i32_49 : BitVec 32 := 0#32
  let c1_i32_51 : BitVec 32 := 1#32
  let arg23 : BitVec 32 := Scf.iv c0_i32_49 c1_i32_51 k1_t1
  let c1_i32_82 : BitVec 32 := 1#32
  let v158 : BitVec 32 := Scalar.andi arg23 c1_i32_82
  let v255 : Index := Scalar.indexCast v158
  let c64 : Index := 64#32
  let c0_99 : Index := 0#32
  ![v255.toNat, 64, 0]
def k1_off10 (k1_t1 : Fin k1_t1_loop.trips) : Fin 3 → Nat :=
  let c0_i32_49 : BitVec 32 := 0#32
  let c1_i32_51 : BitVec 32 := 1#32
  let arg23 : BitVec 32 := Scf.iv c0_i32_49 c1_i32_51 k1_t1
  let c1_i32_82 : BitVec 32 := 1#32
  let v158 : BitVec 32 := Scalar.andi arg23 c1_i32_82
  let v270 : Index := Scalar.indexCast v158
  let c80 : Index := 80#32
  let c0_100 : Index := 0#32
  ![v270.toNat, 80, 0]
def k1_off11 (k1_t1 : Fin k1_t1_loop.trips) : Fin 3 → Nat :=
  let c0_i32_49 : BitVec 32 := 0#32
  let c1_i32_51 : BitVec 32 := 1#32
  let arg23 : BitVec 32 := Scf.iv c0_i32_49 c1_i32_51 k1_t1
  let c1_i32_82 : BitVec 32 := 1#32
  let v158 : BitVec 32 := Scalar.andi arg23 c1_i32_82
  let v285 : Index := Scalar.indexCast v158
  let c96 : Index := 96#32
  let c0_101 : Index := 0#32
  ![v285.toNat, 96, 0]
def k1_off12 (k1_t1 : Fin k1_t1_loop.trips) : Fin 3 → Nat :=
  let c0_i32_49 : BitVec 32 := 0#32
  let c1_i32_51 : BitVec 32 := 1#32
  let arg23 : BitVec 32 := Scf.iv c0_i32_49 c1_i32_51 k1_t1
  let c1_i32_82 : BitVec 32 := 1#32
  let v158 : BitVec 32 := Scalar.andi arg23 c1_i32_82
  let v300 : Index := Scalar.indexCast v158
  let c112 : Index := 112#32
  let c0_102 : Index := 0#32
  ![v300.toNat, 112, 0]
def k1_off13 (k1_t1 : Fin k1_t1_loop.trips) : Fin 3 → Nat :=
  let c0_i32_49 : BitVec 32 := 0#32
  let c1_i32_51 : BitVec 32 := 1#32
  let arg23 : BitVec 32 := Scf.iv c0_i32_49 c1_i32_51 k1_t1
  let c1_i32_82 : BitVec 32 := 1#32
  let v158 : BitVec 32 := Scalar.andi arg23 c1_i32_82
  let v315 : Index := Scalar.indexCast v158
  let c128 : Index := 128#32
  let c0_103 : Index := 0#32
  ![v315.toNat, 128, 0]
def k1_off14 (k1_t1 : Fin k1_t1_loop.trips) : Fin 3 → Nat :=
  let c0_i32_49 : BitVec 32 := 0#32
  let c1_i32_51 : BitVec 32 := 1#32
  let arg23 : BitVec 32 := Scf.iv c0_i32_49 c1_i32_51 k1_t1
  let c1_i32_82 : BitVec 32 := 1#32
  let v158 : BitVec 32 := Scalar.andi arg23 c1_i32_82
  let v330 : Index := Scalar.indexCast v158
  let c144 : Index := 144#32
  let c0_104 : Index := 0#32
  ![v330.toNat, 144, 0]
def k1_off15 (k1_t1 : Fin k1_t1_loop.trips) : Fin 3 → Nat :=
  let c0_i32_49 : BitVec 32 := 0#32
  let c1_i32_51 : BitVec 32 := 1#32
  let arg23 : BitVec 32 := Scf.iv c0_i32_49 c1_i32_51 k1_t1
  let c1_i32_82 : BitVec 32 := 1#32
  let v158 : BitVec 32 := Scalar.andi arg23 c1_i32_82
  let v345 : Index := Scalar.indexCast v158
  let c160 : Index := 160#32
  let c0_105 : Index := 0#32
  ![v345.toNat, 160, 0]
def k1_off16 (k1_t1 : Fin k1_t1_loop.trips) : Fin 3 → Nat :=
  let c0_i32_49 : BitVec 32 := 0#32
  let c1_i32_51 : BitVec 32 := 1#32
  let arg23 : BitVec 32 := Scf.iv c0_i32_49 c1_i32_51 k1_t1
  let c1_i32_82 : BitVec 32 := 1#32
  let v158 : BitVec 32 := Scalar.andi arg23 c1_i32_82
  let v360 : Index := Scalar.indexCast v158
  let c176 : Index := 176#32
  let c0_106 : Index := 0#32
  ![v360.toNat, 176, 0]
def k1_off17 (k1_t1 : Fin k1_t1_loop.trips) : Fin 3 → Nat :=
  let c0_i32_49 : BitVec 32 := 0#32
  let c1_i32_51 : BitVec 32 := 1#32
  let arg23 : BitVec 32 := Scf.iv c0_i32_49 c1_i32_51 k1_t1
  let c1_i32_82 : BitVec 32 := 1#32
  let v158 : BitVec 32 := Scalar.andi arg23 c1_i32_82
  let v375 : Index := Scalar.indexCast v158
  let c192 : Index := 192#32
  let c0_107 : Index := 0#32
  ![v375.toNat, 192, 0]
def k1_off18 (k1_t1 : Fin k1_t1_loop.trips) : Fin 3 → Nat :=
  let c0_i32_49 : BitVec 32 := 0#32
  let c1_i32_51 : BitVec 32 := 1#32
  let arg23 : BitVec 32 := Scf.iv c0_i32_49 c1_i32_51 k1_t1
  let c1_i32_82 : BitVec 32 := 1#32
  let v158 : BitVec 32 := Scalar.andi arg23 c1_i32_82
  let v390 : Index := Scalar.indexCast v158
  let c208 : Index := 208#32
  let c0_108 : Index := 0#32
  ![v390.toNat, 208, 0]
def k1_off19 (k1_t1 : Fin k1_t1_loop.trips) : Fin 3 → Nat :=
  let c0_i32_49 : BitVec 32 := 0#32
  let c1_i32_51 : BitVec 32 := 1#32
  let arg23 : BitVec 32 := Scf.iv c0_i32_49 c1_i32_51 k1_t1
  let c1_i32_82 : BitVec 32 := 1#32
  let v158 : BitVec 32 := Scalar.andi arg23 c1_i32_82
  let v405 : Index := Scalar.indexCast v158
  let c224 : Index := 224#32
  let c0_109 : Index := 0#32
  ![v405.toNat, 224, 0]
def k1_off20 (k1_t1 : Fin k1_t1_loop.trips) : Fin 3 → Nat :=
  let c0_i32_49 : BitVec 32 := 0#32
  let c1_i32_51 : BitVec 32 := 1#32
  let arg23 : BitVec 32 := Scf.iv c0_i32_49 c1_i32_51 k1_t1
  let c1_i32_82 : BitVec 32 := 1#32
  let v158 : BitVec 32 := Scalar.andi arg23 c1_i32_82
  let v420 : Index := Scalar.indexCast v158
  let c240_110 : Index := 240#32
  let c0_111 : Index := 0#32
  ![v420.toNat, 240, 0]
def cc1_transform_0 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  ![v1.toNat, c1_i32.toNat]

def cc1_transform_2 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S4x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S2048x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S2048x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S2048x16 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S16x2048 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S1x2048 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S2048x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 2 → Memref sig .tc .vmem S256x1024 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S2x1024x1024 : Shape := ⟨3, ![2, 1024, 1024]⟩
abbrev S1024 : Shape := ⟨1, ![1024]⟩
abbrev S1024x4096 : Shape := ⟨2, ![1024, 4096]⟩
abbrev S2048x1x4 : Shape := ⟨3, ![2048, 1, 4]⟩
abbrev S2048 : Shape := ⟨1, ![2048]⟩
abbrev S2048x16 : Shape := ⟨2, ![2048, 16]⟩
abbrev S2048x2048 : Shape := ⟨2, ![2048, 2048]⟩
abbrev S2048x1024 : Shape := ⟨2, ![2048, 1024]⟩
abbrev S_ : Shape := ⟨0, ![]⟩
abbrev S2x1024 : Shape := ⟨2, ![2, 1024]⟩
abbrev S2x1024x1 : Shape := ⟨3, ![2, 1024, 1]⟩
abbrev S1x1x1024 : Shape := ⟨3, ![1, 1, 1024]⟩
abbrev S2x1024x4096 : Shape := ⟨3, ![2, 1024, 4096]⟩
abbrev S2x1024x2048 : Shape := ⟨3, ![2, 1024, 2048]⟩
abbrev S2x1027x2048 : Shape := ⟨3, ![2, 1027, 2048]⟩
abbrev S2048x1x1 : Shape := ⟨3, ![2048, 1, 1]⟩
abbrev S1x1x2048 : Shape := ⟨3, ![1, 1, 2048]⟩
abbrev S2x1024x16 : Shape := ⟨3, ![2, 1024, 16]⟩
abbrev S2x1024x2048x1 : Shape := ⟨4, ![2, 1024, 2048, 1]⟩
abbrev S1x1x2048x16 : Shape := ⟨4, ![1, 1, 2048, 16]⟩
abbrev S2x1024x2048x16 : Shape := ⟨4, ![2, 1024, 2048, 16]⟩
abbrev S2x1024x1x16 : Shape := ⟨4, ![2, 1024, 1, 16]⟩
abbrev S2x2048x16 : Shape := ⟨3, ![2, 2048, 16]⟩
abbrev S1024x2x2048x16 : Shape := ⟨4, ![1024, 2, 2048, 16]⟩
abbrev S1024x2x16 : Shape := ⟨3, ![1024, 2, 16]⟩
abbrev S1024x2x2048 : Shape := ⟨3, ![1024, 2, 2048]⟩
abbrev S1x2x2048x16 : Shape := ⟨4, ![1, 2, 2048, 16]⟩
abbrev S1x2x16 : Shape := ⟨3, ![1, 2, 16]⟩
abbrev S2x16 : Shape := ⟨2, ![2, 16]⟩
abbrev S2x1x16 : Shape := ⟨3, ![2, 1, 16]⟩
abbrev S2x2048 : Shape := ⟨2, ![2, 2048]⟩
abbrev S1x2x2048 : Shape := ⟨3, ![1, 2, 2048]⟩

abbrev nBuf : Space → Nat
  | .hbm => 201
  | .vmem => 0
  | .smem => 0
  | _ => 0

abbrev hbmTy0_0 (i : Nat) : BufTy := match i % 128 with
  | 0 => ⟨S2x1024x1024, .f32⟩
  | 1 => ⟨S1024, .f32⟩
  | 2 => ⟨S1024, .f32⟩
  | 3 => ⟨S1024x4096, .f32⟩
  | 4 => ⟨S2048x1x4, .f32⟩
  | 5 => ⟨S2048, .f32⟩
  | 6 => ⟨S2048x16, .f32⟩
  | 7 => ⟨S2048x16, .f32⟩
  | 8 => ⟨S2048x2048, .f32⟩
  | 9 => ⟨S2048, .f32⟩
  | 10 => ⟨S2048x16, .f32⟩
  | 11 => ⟨S2048, .f32⟩
  | 12 => ⟨S2048x1024, .f32⟩
  | 13 => ⟨S_, .f32⟩
  | 14 => ⟨S2x1024, .f32⟩
  | 15 => ⟨S2x1024x1, .f32⟩
  | 16 => ⟨S_, .f32⟩
  | 17 => ⟨S2x1024x1, .f32⟩
  | 18 => ⟨S2x1024x1, .f32⟩
  | 19 => ⟨S_, .i32⟩
  | 20 => ⟨S_, .f32⟩
  | 21 => ⟨S2x1024, .f32⟩
  | 22 => ⟨S2x1024x1, .f32⟩
  | 23 => ⟨S_, .f32⟩
  | 24 => ⟨S2x1024x1, .f32⟩
  | 25 => ⟨S2x1024x1, .f32⟩
  | 26 => ⟨S2x1024x1024, .f32⟩
  | 27 => ⟨S2x1024x1024, .f32⟩
  | 28 => ⟨S2x1024x1024, .f32⟩
  | 29 => ⟨S_, .f32⟩
  | 30 => ⟨S_, .f32⟩
  | 31 => ⟨S_, .f32⟩
  | 32 => ⟨S_, .f32⟩
  | 33 => ⟨S2x1024, .f32⟩
  | 34 => ⟨S2x1024x1, .f32⟩
  | 35 => ⟨S2x1024x1, .f32⟩
  | 36 => ⟨S2x1024x1, .f32⟩
  | 37 => ⟨S_, .f32⟩
  | 38 => ⟨S_, .i1⟩
  | 39 => ⟨S_, .f32⟩
  | 40 => ⟨S_, .f32⟩
  | 41 => ⟨S2x1024x1, .f32⟩
  | 42 => ⟨S2x1024x1, .f32⟩
  | 43 => ⟨S2x1024x1024, .f32⟩
  | 44 => ⟨S2x1024x1024, .f32⟩
  | 45 => ⟨S_, .f32⟩
  | 46 => ⟨S2x1024x1, .f32⟩
  | 47 => ⟨S2x1024x1, .f32⟩
  | 48 => ⟨S2x1024x1, .f32⟩
  | 49 => ⟨S2x1024x1024, .f32⟩
  | 50 => ⟨S2x1024x1024, .f32⟩
  | 51 => ⟨S1x1x1024, .f32⟩
  | 52 => ⟨S2x1024x1024, .f32⟩
  | 53 => ⟨S2x1024x1024, .f32⟩
  | 54 => ⟨S1x1x1024, .f32⟩
  | 55 => ⟨S2x1024x1024, .f32⟩
  | 56 => ⟨S2x1024x1024, .f32⟩
  | 57 => ⟨S2x1024x4096, .f32⟩
  | 58 => ⟨S2x1024x2048, .f32⟩
  | 59 => ⟨S2x1024x2048, .f32⟩
  | 60 => ⟨S_, .i32⟩
  | 61 => ⟨S_, .f32⟩
  | 62 => ⟨S2x1027x2048, .f32⟩
  | 63 => ⟨S2x1024x2048, .f32⟩
  | 64 => ⟨S2048x1x1, .f32⟩
  | 65 => ⟨S2048, .f32⟩
  | 66 => ⟨S1x1x2048, .f32⟩
  | 67 => ⟨S2x1024x2048, .f32⟩
  | 68 => ⟨S2x1024x2048, .f32⟩
  | 69 => ⟨S_, .f32⟩
  | 70 => ⟨S2x1024x2048, .f32⟩
  | 71 => ⟨S2x1024x2048, .f32⟩
  | 72 => ⟨S2x1024x2048, .f32⟩
  | 73 => ⟨S2048x1x1, .f32⟩
  | 74 => ⟨S2048, .f32⟩
  | 75 => ⟨S1x1x2048, .f32⟩
  | 76 => ⟨S2x1024x2048, .f32⟩
  | 77 => ⟨S2x1024x2048, .f32⟩
  | 78 => ⟨S2x1024x2048, .f32⟩
  | 79 => ⟨S2x1024x2048, .f32⟩
  | 80 => ⟨S2048x1x1, .f32⟩
  | 81 => ⟨S2048, .f32⟩
  | 82 => ⟨S1x1x2048, .f32⟩
  | 83 => ⟨S2x1024x2048, .f32⟩
  | 84 => ⟨S2x1024x2048, .f32⟩
  | 85 => ⟨S2x1024x2048, .f32⟩
  | 86 => ⟨S2x1024x2048, .f32⟩
  | 87 => ⟨S2048x1x1, .f32⟩
  | 88 => ⟨S2048, .f32⟩
  | 89 => ⟨S1x1x2048, .f32⟩
  | 90 => ⟨S2x1024x2048, .f32⟩
  | 91 => ⟨S2x1024x2048, .f32⟩
  | 92 => ⟨S2x1024x2048, .f32⟩
  | 93 => ⟨S1x1x2048, .f32⟩
  | 94 => ⟨S2x1024x2048, .f32⟩
  | 95 => ⟨S2x1024x2048, .f32⟩
  | 96 => ⟨S2x1024x2048, .f32⟩
  | 97 => ⟨S2x1024x2048, .f32⟩
  | 98 => ⟨S_, .f32⟩
  | 99 => ⟨S2x1024x2048, .f32⟩
  | 100 => ⟨S2x1024x2048, .f32⟩
  | 101 => ⟨S_, .f32⟩
  | 102 => ⟨S2x1024x2048, .f32⟩
  | 103 => ⟨S2x1024x2048, .f32⟩
  | 104 => ⟨S2x1024x2048, .f32⟩
  | 105 => ⟨S2x1024x16, .f32⟩
  | 106 => ⟨S2x1024x16, .f32⟩
  | 107 => ⟨S2x1024x2048, .f32⟩
  | 108 => ⟨S1x1x2048, .f32⟩
  | 109 => ⟨S2x1024x2048, .f32⟩
  | 110 => ⟨S2x1024x2048, .f32⟩
  | 111 => ⟨S_, .f32⟩
  | 112 => ⟨S2x1024x2048, .f32⟩
  | 113 => ⟨S2x1024x2048, .f32⟩
  | 114 => ⟨S2x1024x2048, .f32⟩
  | 115 => ⟨S2x1024x2048, .f32⟩
  | 116 => ⟨S2x1024x2048, .i1⟩
  | 117 => ⟨S2x1024x2048, .f32⟩
  | 118 => ⟨S2x1024x2048, .f32⟩
  | 119 => ⟨S2x1024x2048, .f32⟩
  | 120 => ⟨S2x1024x2048, .f32⟩
  | 121 => ⟨S2x1024x2048, .f32⟩
  | 122 => ⟨S2x1024x2048, .f32⟩
  | 123 => ⟨S2x1024x2048, .f32⟩
  | 124 => ⟨S2x1024x2048, .f32⟩
  | 125 => ⟨S2048x16, .f32⟩
  | 126 => ⟨S2048x16, .f32⟩
  | 127 => ⟨S2x1024x2048x1, .f32⟩
  | _ => ⟨S2x1024x1024, .f32⟩

abbrev hbmTy0_1 (i : Nat) : BufTy := match i % 128 with
  | 0 => ⟨S1x1x2048x16, .f32⟩
  | 1 => ⟨S2x1024x2048x16, .f32⟩
  | 2 => ⟨S2x1024x2048x16, .f32⟩
  | 3 => ⟨S2x1024x2048x16, .f32⟩
  | 4 => ⟨S2x1024x2048x16, .f32⟩
  | 5 => ⟨S2x1024x2048x1, .f32⟩
  | 6 => ⟨S2x1024x1x16, .f32⟩
  | 7 => ⟨S2x1024x2048x16, .f32⟩
  | 8 => ⟨S2x1024x2048x16, .f32⟩
  | 9 => ⟨S2x1024x2048x16, .f32⟩
  | 10 => ⟨S2x1024x2048x1, .f32⟩
  | 11 => ⟨S2x1024x2048x16, .f32⟩
  | 12 => ⟨S2x1024x2048x16, .f32⟩
  | 13 => ⟨S_, .f32⟩
  | 14 => ⟨S2x2048x16, .f32⟩
  | 15 => ⟨S1024x2x2048x16, .f32⟩
  | 16 => ⟨S1024x2x2048x16, .f32⟩
  | 17 => ⟨S1024x2x16, .f32⟩
  | 18 => ⟨S_, .f32⟩
  | 19 => ⟨S1024x2x2048, .f32⟩
  | 20 => ⟨S_, .i32⟩
  | 21 => ⟨S1024x2x2048x16, .f32⟩
  | 22 => ⟨S1024x2x2048x16, .f32⟩
  | 23 => ⟨S1024x2x16, .f32⟩
  | 24 => ⟨S_, .i32⟩
  | 25 => ⟨S2x2048x16, .f32⟩
  | 26 => ⟨S1024x2x2048, .f32⟩
  | 27 => ⟨S_, .i32⟩
  | 28 => ⟨S_, .i1⟩
  | 29 => ⟨S_, .i32⟩
  | 30 => ⟨S_, .i32⟩
  | 31 => ⟨S_, .i32⟩
  | 32 => ⟨S1x2x2048x16, .f32⟩
  | 33 => ⟨S2x2048x16, .f32⟩
  | 34 => ⟨S_, .i32⟩
  | 35 => ⟨S_, .i32⟩
  | 36 => ⟨S_, .i32⟩
  | 37 => ⟨S1x2x2048x16, .f32⟩
  | 38 => ⟨S2x2048x16, .f32⟩
  | 39 => ⟨S_, .i32⟩
  | 40 => ⟨S_, .i32⟩
  | 41 => ⟨S1x2x16, .f32⟩
  | 42 => ⟨S2x16, .f32⟩
  | 43 => ⟨S2x2048x16, .f32⟩
  | 44 => ⟨S2x2048x16, .f32⟩
  | 45 => ⟨S2x1x16, .f32⟩
  | 46 => ⟨S2x2048x16, .f32⟩
  | 47 => ⟨S2x2048x16, .f32⟩
  | 48 => ⟨S_, .f32⟩
  | 49 => ⟨S2x2048, .f32⟩
  | 50 => ⟨S1x2x2048, .f32⟩
  | 51 => ⟨S_, .i32⟩
  | 52 => ⟨S_, .i32⟩
  | 53 => ⟨S1024x2x2048, .f32⟩
  | 54 => ⟨S_, .i32⟩
  | 55 => ⟨S_, .i32⟩
  | 56 => ⟨S2x1024x2048, .f32⟩
  | 57 => ⟨S1x1x2048, .f32⟩
  | 58 => ⟨S2x1024x2048, .f32⟩
  | 59 => ⟨S2x1024x2048, .f32⟩
  | 60 => ⟨S2x1024x2048, .f32⟩
  | 61 => ⟨S2x1024x2048, .f32⟩
  | 62 => ⟨S2x1024x2048, .f32⟩
  | 63 => ⟨S_, .f32⟩
  | 64 => ⟨S2x1024x2048, .f32⟩
  | 65 => ⟨S2x1024x2048, .f32⟩
  | 66 => ⟨S_, .f32⟩
  | 67 => ⟨S2x1024x2048, .f32⟩
  | 68 => ⟨S2x1024x2048, .f32⟩
  | 69 => ⟨S2x1024x2048, .f32⟩
  | 70 => ⟨S2x1024x2048, .f32⟩
  | 71 => ⟨S2x1024x1024, .f32⟩
  | 72 => ⟨S2x1024x1024, .f32⟩
  | _ => ⟨S2x1024x1024, .f32⟩

abbrev hbmTy (i : Nat) : BufTy := match i / 128 with
  | 0 => hbmTy0_0 i
  | 1 => hbmTy0_1 i
  | _ => ⟨S2x1024x1024, .f32⟩

abbrev bufTy : (tb : Table) → Fin (tcTables nBuf tb) → BufTy
  | .hbm, ⟨i, _⟩ => hbmTy i
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_cst_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_cst_1 : Ref sig .tc := ⟨.hbm, 30, rfl⟩
abbrev main_call0_v8 : Ref sig .tc := ⟨.hbm, 31, rfl⟩
abbrev main_call0_cst_2 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_cst_3 : Ref sig .tc := ⟨.hbm, 37, rfl⟩
abbrev main_call0_v13 : Ref sig .tc := ⟨.hbm, 38, rfl⟩
abbrev main_call0_cst_4 : Ref sig .tc := ⟨.hbm, 39, rfl⟩
abbrev main_call0_call0_v0 : Ref sig .tc := ⟨.hbm, 40, rfl⟩
abbrev main_call0_call0_v1 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_cst_1 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_c_2 : Ref sig .tc := ⟨.hbm, 60, rfl⟩
abbrev main_call1_v0 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_cst_3 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_call2_v0 : Ref sig .tc := ⟨.hbm, 96, rfl⟩
abbrev main_call2_v1 : Ref sig .tc := ⟨.hbm, 97, rfl⟩
abbrev main_call2_cst : Ref sig .tc := ⟨.hbm, 98, rfl⟩
abbrev main_call2_v2 : Ref sig .tc := ⟨.hbm, 99, rfl⟩
abbrev main_call2_v3 : Ref sig .tc := ⟨.hbm, 100, rfl⟩
abbrev main_call2_cst_0 : Ref sig .tc := ⟨.hbm, 101, rfl⟩
abbrev main_call2_v4 : Ref sig .tc := ⟨.hbm, 102, rfl⟩
abbrev main_call2_v5 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_call3_cst : Ref sig .tc := ⟨.hbm, 111, rfl⟩
abbrev main_call3_v0 : Ref sig .tc := ⟨.hbm, 112, rfl⟩
abbrev main_call3_v1 : Ref sig .tc := ⟨.hbm, 113, rfl⟩
abbrev main_call3_v2 : Ref sig .tc := ⟨.hbm, 114, rfl⟩
abbrev main_call3_v3 : Ref sig .tc := ⟨.hbm, 115, rfl⟩
abbrev main_call3_v4 : Ref sig .tc := ⟨.hbm, 116, rfl⟩
abbrev main_call3_v5 : Ref sig .tc := ⟨.hbm, 117, rfl⟩
abbrev main_call3_v6 : Ref sig .tc := ⟨.hbm, 118, rfl⟩
abbrev main_call3_v7 : Ref sig .tc := ⟨.hbm, 119, rfl⟩
abbrev main_call3_v8 : Ref sig .tc := ⟨.hbm, 120, rfl⟩
abbrev main_call3_v9 : Ref sig .tc := ⟨.hbm, 121, rfl⟩
abbrev main_call3_v10 : Ref sig .tc := ⟨.hbm, 122, rfl⟩
abbrev main_call3_v11 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_cst_4 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_cst_5 : Ref sig .tc := ⟨.hbm, 146, rfl⟩
abbrev main_v82 : Ref sig .tc := ⟨.hbm, 147, rfl⟩
abbrev main_c_6 : Ref sig .tc := ⟨.hbm, 148, rfl⟩
abbrev main_v83_0 : Ref sig .tc := ⟨.hbm, 149, rfl⟩
abbrev main_v83_1 : Ref sig .tc := ⟨.hbm, 150, rfl⟩
abbrev main_v83_2 : Ref sig .tc := ⟨.hbm, 151, rfl⟩
abbrev main_v83_3 : Ref sig .tc := ⟨.hbm, 152, rfl⟩
abbrev main_v83_4 : Ref sig .tc := ⟨.hbm, 153, rfl⟩
abbrev main_v83_5 : Ref sig .tc := ⟨.hbm, 154, rfl⟩
abbrev main_while0c_c_12 : Ref sig .tc := ⟨.hbm, 155, rfl⟩
abbrev main_while0c_v93 : Ref sig .tc := ⟨.hbm, 156, rfl⟩
abbrev main_while0b_call4_c : Ref sig .tc := ⟨.hbm, 157, rfl⟩
abbrev main_while0b_call4_c_0 : Ref sig .tc := ⟨.hbm, 158, rfl⟩
abbrev main_while0b_call4_c_1 : Ref sig .tc := ⟨.hbm, 159, rfl⟩
abbrev main_while0b_call4_v0 : Ref sig .tc := ⟨.hbm, 160, rfl⟩
abbrev main_while0b_v93 : Ref sig .tc := ⟨.hbm, 161, rfl⟩
abbrev main_while0b_call5_c : Ref sig .tc := ⟨.hbm, 162, rfl⟩
abbrev main_while0b_call5_c_0 : Ref sig .tc := ⟨.hbm, 163, rfl⟩
abbrev main_while0b_call5_c_1 : Ref sig .tc := ⟨.hbm, 164, rfl⟩
abbrev main_while0b_call5_v0 : Ref sig .tc := ⟨.hbm, 165, rfl⟩
abbrev main_while0b_v94 : Ref sig .tc := ⟨.hbm, 166, rfl⟩
abbrev main_while0b_call6_c : Ref sig .tc := ⟨.hbm, 167, rfl⟩
abbrev main_while0b_call6_c_0 : Ref sig .tc := ⟨.hbm, 168, rfl⟩
abbrev main_while0b_call6_v0 : Ref sig .tc := ⟨.hbm, 169, rfl⟩
abbrev main_while0b_v95 : Ref sig .tc := ⟨.hbm, 170, rfl⟩
abbrev main_while0b_v96 : Ref sig .tc := ⟨.hbm, 171, rfl⟩
abbrev main_while0b_v97 : Ref sig .tc := ⟨.hbm, 172, rfl⟩
abbrev main_while0b_v98 : Ref sig .tc := ⟨.hbm, 173, rfl⟩
abbrev main_while0b_v99 : Ref sig .tc := ⟨.hbm, 174, rfl⟩
abbrev main_while0b_v100 : Ref sig .tc := ⟨.hbm, 175, rfl⟩
abbrev main_while0b_cst_12 : Ref sig .tc := ⟨.hbm, 176, rfl⟩
abbrev main_while0b_v101 : Ref sig .tc := ⟨.hbm, 177, rfl⟩
abbrev main_while0b_call7_v0 : Ref sig .tc := ⟨.hbm, 178, rfl⟩
abbrev main_while0b_call7_c : Ref sig .tc := ⟨.hbm, 179, rfl⟩
abbrev main_while0b_call7_c_0 : Ref sig .tc := ⟨.hbm, 180, rfl⟩
abbrev main_while0b_v102 : Ref sig .tc := ⟨.hbm, 181, rfl⟩
abbrev main_while0b_c_13 : Ref sig .tc := ⟨.hbm, 182, rfl⟩
abbrev main_while0b_v103 : Ref sig .tc := ⟨.hbm, 183, rfl⟩
abbrev main_v84 : Ref sig .tc := ⟨.hbm, 184, rfl⟩
abbrev main_v85 : Ref sig .tc := ⟨.hbm, 185, rfl⟩
abbrev main_v86 : Ref sig .tc := ⟨.hbm, 186, rfl⟩
abbrev main_v87 : Ref sig .tc := ⟨.hbm, 187, rfl⟩
abbrev main_v88 : Ref sig .tc := ⟨.hbm, 188, rfl⟩
abbrev main_call8_v0 : Ref sig .tc := ⟨.hbm, 189, rfl⟩
abbrev main_call8_v1 : Ref sig .tc := ⟨.hbm, 190, rfl⟩
abbrev main_call8_cst : Ref sig .tc := ⟨.hbm, 191, rfl⟩
abbrev main_call8_v2 : Ref sig .tc := ⟨.hbm, 192, rfl⟩
abbrev main_call8_v3 : Ref sig .tc := ⟨.hbm, 193, rfl⟩
abbrev main_call8_cst_0 : Ref sig .tc := ⟨.hbm, 194, rfl⟩
abbrev main_call8_v4 : Ref sig .tc := ⟨.hbm, 195, rfl⟩
abbrev main_call8_v5 : Ref sig .tc := ⟨.hbm, 196, rfl⟩
abbrev main_v89 : Ref sig .tc := ⟨.hbm, 197, rfl⟩
abbrev main_v90 : Ref sig .tc := ⟨.hbm, 198, rfl⟩
abbrev main_v91 : Ref sig .tc := ⟨.hbm, 199, rfl⟩
abbrev main_v92 : Ref sig .tc := ⟨.hbm, 200, rfl⟩

abbrev nD : Nat := 1
abbrev τ : Topo := Topo.v7x

variable {F : FTy → Type} [FloatOps F]

abbrev main_while0_count : Scf.Loop 32 := ⟨0#32, 1024#32, 1#32⟩
-- ==== Proof.Whole.lean ====
module

public import Idealize.ShloMosaic.Lib.Writes
public import Idealize.ShloMosaic.Lib.Pipeline.Value

@[expose] public section

set_option maxRecDepth 16384

noncomputable section

/-! A load of all of a buffer reads its contents; a store to all of a buffer leaves what it stored. -/

namespace Cert.Whole

open Idealize.ShloMosaic Idealize.SL.Sem

variable {sig : RefSig} {κ : Kind} {sp : Space} {S : Shape} {e : EltTy} {Val : EltTy → Type}

theorem load_whole (v : View sig κ sp S e) (f : v.ty.Contents Val) {off : Fin S.rank → ℕ} (hz : off = fun _ => 0)
    (inb : ∀ a, off a + S.size a ≤ S.size a) : View.readAt Val v (Rect.unit off S.size inb).toLoadRect f = v.read Val f :=
  View.ld_unit_zero hz inb (v.read Val f)

theorem store_whole (v : View sig κ sp S e) (f : v.ty.Contents Val) {off : Fin S.rank → ℕ} (hz : off = fun _ => 0)
    (inb : ∀ a, off a + S.size a ≤ S.size a) (w : S.Idx → Val e) :
    v.read Val (v.writes Val f [⟨Rect.unit off S.size inb, w⟩]) = w := by
  subst hz
  funext y
  exact View.read_writes_cons_hit_of_coords v f (Rect.unit (fun _ => 0) S.size inb) w [] y y fun a => by
    show (y a).val = 0 + 1 * (y a).val
    omega

theorem z2 : (![0, 0] : Fin 2 → ℕ) = fun _ => 0 := by decide

end Cert.Whole

end
-- ==== Proof.KIOffsets.lean ====
module

public import proofs.«01_k».proof.Proof.Gen.KernelIdeal.Skeleton

@[expose] public section

set_option maxRecDepth 16384

noncomputable section

/-! The offsets of the loop's accesses to the two-slot buffer of states, in closed form: trip `k` writes the sixteen states of its
    group into slot `k % 2` and reads the other slot. -/

namespace Cert.KernelIdeal.Gen

open Idealize.ShloMosaic Idealize.SL.Sem

theorem k1_off2_eq : ∀ k1_t1 : Fin k1_t1_loop.trips, k1_off2 k1_t1 = ![1 - k1_t1.val % 2, 0, 0] := by decide +kernel
instance closedOff_k1_off2 (k1_t1 : Fin k1_t1_loop.trips) : ClosedOff (k1_off2 k1_t1) := ⟨_, k1_off2_eq k1_t1⟩
theorem k1_off5_eq : ∀ k1_t1 : Fin k1_t1_loop.trips, k1_off5 k1_t1 = ![k1_t1.val % 2, 0, 0] := by decide +kernel
instance closedOff_k1_off5 (k1_t1 : Fin k1_t1_loop.trips) : ClosedOff (k1_off5 k1_t1) := ⟨_, k1_off5_eq k1_t1⟩
theorem k1_off6_eq : ∀ k1_t1 : Fin k1_t1_loop.trips, k1_off6 k1_t1 = ![k1_t1.val % 2, 16, 0] := by decide +kernel
instance closedOff_k1_off6 (k1_t1 : Fin k1_t1_loop.trips) : ClosedOff (k1_off6 k1_t1) := ⟨_, k1_off6_eq k1_t1⟩
theorem k1_off7_eq : ∀ k1_t1 : Fin k1_t1_loop.trips, k1_off7 k1_t1 = ![k1_t1.val % 2, 32, 0] := by decide +kernel
instance closedOff_k1_off7 (k1_t1 : Fin k1_t1_loop.trips) : ClosedOff (k1_off7 k1_t1) := ⟨_, k1_off7_eq k1_t1⟩
theorem k1_off8_eq : ∀ k1_t1 : Fin k1_t1_loop.trips, k1_off8 k1_t1 = ![k1_t1.val % 2, 48, 0] := by decide +kernel
instance closedOff_k1_off8 (k1_t1 : Fin k1_t1_loop.trips) : ClosedOff (k1_off8 k1_t1) := ⟨_, k1_off8_eq k1_t1⟩
theorem k1_off9_eq : ∀ k1_t1 : Fin k1_t1_loop.trips, k1_off9 k1_t1 = ![k1_t1.val % 2, 64, 0] := by decide +kernel
instance closedOff_k1_off9 (k1_t1 : Fin k1_t1_loop.trips) : ClosedOff (k1_off9 k1_t1) := ⟨_, k1_off9_eq k1_t1⟩
theorem k1_off10_eq : ∀ k1_t1 : Fin k1_t1_loop.trips, k1_off10 k1_t1 = ![k1_t1.val % 2, 80, 0] := by decide +kernel
instance closedOff_k1_off10 (k1_t1 : Fin k1_t1_loop.trips) : ClosedOff (k1_off10 k1_t1) := ⟨_, k1_off10_eq k1_t1⟩
theorem k1_off11_eq : ∀ k1_t1 : Fin k1_t1_loop.trips, k1_off11 k1_t1 = ![k1_t1.val % 2, 96, 0] := by decide +kernel
instance closedOff_k1_off11 (k1_t1 : Fin k1_t1_loop.trips) : ClosedOff (k1_off11 k1_t1) := ⟨_, k1_off11_eq k1_t1⟩
theorem k1_off12_eq : ∀ k1_t1 : Fin k1_t1_loop.trips, k1_off12 k1_t1 = ![k1_t1.val % 2, 112, 0] := by decide +kernel
instance closedOff_k1_off12 (k1_t1 : Fin k1_t1_loop.trips) : ClosedOff (k1_off12 k1_t1) := ⟨_, k1_off12_eq k1_t1⟩
theorem k1_off13_eq : ∀ k1_t1 : Fin k1_t1_loop.trips, k1_off13 k1_t1 = ![k1_t1.val % 2, 128, 0] := by decide +kernel
instance closedOff_k1_off13 (k1_t1 : Fin k1_t1_loop.trips) : ClosedOff (k1_off13 k1_t1) := ⟨_, k1_off13_eq k1_t1⟩
theorem k1_off14_eq : ∀ k1_t1 : Fin k1_t1_loop.trips, k1_off14 k1_t1 = ![k1_t1.val % 2, 144, 0] := by decide +kernel
instance closedOff_k1_off14 (k1_t1 : Fin k1_t1_loop.trips) : ClosedOff (k1_off14 k1_t1) := ⟨_, k1_off14_eq k1_t1⟩
theorem k1_off15_eq : ∀ k1_t1 : Fin k1_t1_loop.trips, k1_off15 k1_t1 = ![k1_t1.val % 2, 160, 0] := by decide +kernel
instance closedOff_k1_off15 (k1_t1 : Fin k1_t1_loop.trips) : ClosedOff (k1_off15 k1_t1) := ⟨_, k1_off15_eq k1_t1⟩
theorem k1_off16_eq : ∀ k1_t1 : Fin k1_t1_loop.trips, k1_off16 k1_t1 = ![k1_t1.val % 2, 176, 0] := by decide +kernel
instance closedOff_k1_off16 (k1_t1 : Fin k1_t1_loop.trips) : ClosedOff (k1_off16 k1_t1) := ⟨_, k1_off16_eq k1_t1⟩
theorem k1_off17_eq : ∀ k1_t1 : Fin k1_t1_loop.trips, k1_off17 k1_t1 = ![k1_t1.val % 2, 192, 0] := by decide +kernel
instance closedOff_k1_off17 (k1_t1 : Fin k1_t1_loop.trips) : ClosedOff (k1_off17 k1_t1) := ⟨_, k1_off17_eq k1_t1⟩
theorem k1_off18_eq : ∀ k1_t1 : Fin k1_t1_loop.trips, k1_off18 k1_t1 = ![k1_t1.val % 2, 208, 0] := by decide +kernel
instance closedOff_k1_off18 (k1_t1 : Fin k1_t1_loop.trips) : ClosedOff (k1_off18 k1_t1) := ⟨_, k1_off18_eq k1_t1⟩
theorem k1_off19_eq : ∀ k1_t1 : Fin k1_t1_loop.trips, k1_off19 k1_t1 = ![k1_t1.val % 2, 224, 0] := by decide +kernel
instance closedOff_k1_off19 (k1_t1 : Fin k1_t1_loop.trips) : ClosedOff (k1_off19 k1_t1) := ⟨_, k1_off19_eq k1_t1⟩
theorem k1_off20_eq : ∀ k1_t1 : Fin k1_t1_loop.trips, k1_off20 k1_t1 = ![k1_t1.val % 2, 240, 0] := by decide +kernel
instance closedOff_k1_off20 (k1_t1 : Fin k1_t1_loop.trips) : ClosedOff (k1_off20 k1_t1) := ⟨_, k1_off20_eq k1_t1⟩

end Cert.KernelIdeal.Gen

end
-- ==== Proof.KIStates.lean ====
module

public import proofs.«01_k».proof.Proof.KIOffsets
public import Idealize.ShloMosaic.Lib.ValueIdx
public import Idealize.ShloMosaic.Lib.Writes
public import Idealize.ShloMosaic.Lib.WholeRead

@[expose] public section

set_option maxRecDepth 16384

noncomputable section

/-! What the scan of one block of 256 rows computes, as plain functions: the state advances row by row, sixteen rows to a group,
    and each group's outputs are one product of the group's states with its rows of `C`. -/

namespace Cert.KernelIdeal.Scan

open Idealize.ShloMosaic Idealize.SL.Sem Cert.KernelIdeal Cert.KernelIdeal.Gen Idealize.ShloMosaic.ValueIdx

variable {F : FTy → Type} [FloatOps F] [Named F]

theorem slices_row : ∀ r : Fin 16, S16x2048.Slices ![r.val, 0] S1x2048 := by decide +kernel
theorem slices_col : ∀ r : Fin 16, S16x16.Slices ![0, r.val] S16x1 := by decide +kernel

/-- One row: the state decays by `exp2 (A * delta)` and takes in `B * (delta * x)`. -/
def stepRow (A dl dx : FVec F S16x2048 .f32) (bt : FVec F S16x16 .f32) (r : Fin 16) (h : FVec F S16x2048 .f32) :
    FVec F S16x2048 .f32 :=
  addf (mulf (exp2 (mulf A (broadcastTo S16x2048 (extractStridedSlice S1x2048 ![r.val, 0] dl (slices_row r)) broadcasts_S1x2048_S16x2048))) h)
    (mulf (broadcastTo S16x2048 (extractStridedSlice S16x1 ![0, r.val] bt (slices_col r)) broadcasts_S16x1_S16x2048)
      (broadcastTo S16x2048 (extractStridedSlice S1x2048 ![r.val, 0] dx (slices_row r)) broadcasts_S1x2048_S16x2048))

/-- The state after `r` rows of a group. -/
def rowsH (A dl dx : FVec F S16x2048 .f32) (bt : FVec F S16x16 .f32) (h : FVec F S16x2048 .f32) : ℕ → FVec F S16x2048 .f32
  | 0 => h
  | r + 1 => stepRow A dl dx bt (Fin.ofNat 16 r) (rowsH A dl dx bt h r)

theorem trips_pos : 0 < k1_t1_loop.trips := by decide +kernel
theorem trips_eq : k1_t1_loop.trips = 16 := by decide +kernel

/-- Trip `k` of the loop, for any number `k`. -/
def kk (k : ℕ) : Fin k1_t1_loop.trips := ⟨k % k1_t1_loop.trips, Nat.mod_lt _ trips_pos⟩

theorem kk_val (k : Fin k1_t1_loop.trips) : kk k.val = k := Fin.ext (Nat.mod_eq_of_lt k.isLt)

/-- The rows of group `k` of a block of 256 rows. -/
def rows8 (X : Vec F S256x2048 .f32) (k : Fin k1_t1_loop.trips) : Vec F S16x2048 .f32 :=
  View.ld X (Rect.unit (s := S256x2048) (k1_off4 k) S16x2048.size (k1_off4_inb k))

section
variable (A : FVec F S16x2048 .f32) (bt : FVec F S16x256 .f32) (dl dx : Vec F S256x2048 .f32) (h0 : FVec F S16x2048 .f32)

/-- The state after `r` rows of group `k`, begun at `h`. -/
def grp (k : Fin k1_t1_loop.trips) (h : FVec F S16x2048 .f32) (r : ℕ) : FVec F S16x2048 .f32 :=
  rowsH A (rows8 dl k) (rows8 dx k) (k1_pay3 bt 0#32 1#32 k) h r

/-- The state at the entry of group `k`. -/
def hst : ℕ → FVec F S16x2048 .f32
  | 0 => h0
  | k + 1 => grp A bt dl dx (kk k) (hst k) 16

/-- The sixteen states of group `k`, one under another. -/
def psv (k : ℕ) : Vec F S1x256x2048 .f32 := fun y =>
  grp A bt dl dx (kk k) (hst A bt dl dx h0 k) ((y 1).val / 16 + 1)
    (ix2 ⟨(y 1).val % 16, Nat.mod_lt _ (by decide)⟩ ⟨(y 2).val, (y 2).isLt⟩)

variable (dg : FVec F S16x256 .f32) (ct : Vec F S256x16 .f32)

theorem ctoff (g : ℕ) : ∀ d : Fin 2, ![16 * (g % 16), 0] d + S16x16.size d ≤ S256x16.size d := by
  have : g % 16 < 16 := Nat.mod_lt _ (by decide)
  intro d
  match d with
  | 0 => show 16 * (g % 16) + 16 ≤ 256; omega
  | 1 => show 0 + 16 ≤ 16; omega

/-- The rows of group `g` of `C`. -/
def ct8 (g : ℕ) : Vec F S16x16 .f32 :=
  View.ld ct (Rect.unit (s := S256x16) ![16 * (g % 16), 0] S16x16.size (ctoff g))

/-- The outputs of group `g`. -/
def yg (g : ℕ) : FVec F S16x2048 .f32 := k1_pay2 dg (ct8 ct g) (psv A bt dl dx h0 g)

/-- The outputs of the whole block. -/
def yall : Vec F S256x2048 .f32 := fun y =>
  yg A bt dl dx h0 dg ct ((y 0).val / 16) (ix2 ⟨(y 0).val % 16, Nat.mod_lt _ (by decide)⟩ ⟨(y 1).val, (y 1).isLt⟩)

end

end Cert.KernelIdeal.Scan

end
-- ==== Proof.KIBlock.lean ====
module

public import proofs.«01_k».proof.Proof.KIStates

@[expose] public section

set_option maxRecDepth 16384

noncomputable section

/-! What the fused kernel leaves at one grid point, as functions of the blocks it is given: 256 rows of the two halves of the
    projection, 256 rows of the input, the weights, and the state and last rows that the point before left. -/

namespace Cert.KernelIdeal.Scan

open Idealize.ShloMosaic Idealize.SL.Sem Cert.KernelIdeal Cert.KernelIdeal.Gen

variable {F : FTy → Type} [FloatOps F] [Named F]

/-- The weights, as every grid point is given them. -/
structure Wts (F : FTy → Type) where
  cw : Vec F S4x2048 .f32
  cb : Vec F S1x2048 .f32
  wd : Vec F S2048x2048 .f32
  bd : Vec F S1x2048 .f32
  wb : Vec F S2048x16 .f32
  wc : Vec F S2048x16 .f32
  la : Vec F S16x2048 .f32
  dp : Vec F S1x2048 .f32
  wo : Vec F S2048x1024 .f32

section
variable (W : Wts F) (X : Vec F S256x2048 .f32) (T H : Vec F S16x2048 .f32)

/-- The causal convolution of the block `X`, the rows before it read from the tail `T`. -/
def convB : FVec F S256x2048 .f32 :=
  k1_pay41 X (View.ld W.cw (Rect.unit (s := S4x2048) ![3, 0] S1x2048.size inb_S4x2048_S1x2048_3_0)) W.cb
    (View.ld T (Rect.unit (s := S16x2048) ![15, 0] S1x2048.size inb_S16x2048_S1x2048_15_0))
    (View.ld W.cw (Rect.unit (s := S4x2048) ![2, 0] S1x2048.size inb_S4x2048_S1x2048_2_0))
    (View.ld T (Rect.unit (s := S16x2048) ![14, 0] S2x2048.size inb_S16x2048_S2x2048_14_0))
    (View.ld W.cw (Rect.unit (s := S4x2048) ![1, 0] S1x2048.size inb_S4x2048_S1x2048_1_0))
    (View.ld T (Rect.unit (s := S16x2048) ![13, 0] S3x2048.size inb_S16x2048_S3x2048_13_0))
    (View.ld W.cw (Rect.unit (s := S4x2048) ![0, 0] S1x2048.size inb_S4x2048_S1x2048_0_0))

/-- Its activation. -/
def xbB : FVec F S256x2048 .f32 := k1_pay43 (convB W X T)
/-- The step sizes. -/
def dlB : FVec F S256x2048 .f32 := k1_pay46 (convB W X T) W.wd W.bd
/-- The step sizes times the activation. -/
def dxB : FVec F S256x2048 .f32 := k1_pay47 (convB W X T) W.wd W.bd
/-- The rows of `B`, as columns. -/
def btB : FVec F S16x256 .f32 := k1_pay48 (xbB W X T) W.wb
/-- The rows of `C`. -/
def ctB : FVec F S256x16 .f32 := k1_pay49 (xbB W X T) W.wc

/-- The state at the entry of group `k` of the block, the state before the block being `H`. -/
def stB (k : ℕ) : FVec F S16x2048 .f32 := hst (k1_pay50 W.la) (btB W X T) (dlB W X T) (dxB W X T) H k
/-- The outputs of the scan over the block. -/
def ysB : Vec F S256x2048 .f32 :=
  yall (k1_pay50 W.la) (btB W X T) (dlB W X T) (dxB W X T) H (k1_pay53 k1_pay52) (ctB W X T)
/-- The block of the result: the gated outputs projected, plus the input's rows `R`; `Z` is the gate. -/
def outB (Z : Vec F S256x2048 .f32) (R : Vec F S256x1024 .f32) : FVec F S256x1024 .f32 :=
  k1_pay1 (k1_pay61 (k1_pay51 W.dp) Z (ysB W X T H) (k1_pay44 (convB W X T))) W.wo R
/-- The state the block leaves. -/
def hB : FVec F S16x2048 .f32 := k1_pay59 (stB W X T H 16)
/-- The last rows the block leaves. -/
def tlB : FVec F S16x2048 .f32 := k1_pay42 (k1_pay40 X)

end

end Cert.KernelIdeal.Scan

end
-- ==== Proof.KITrip.lean ====
module

public import proofs.«01_k».proof.Proof.KIStates
public import Idealize.ShloMosaic.Lib.ValueLayout
public import Idealize.ShloMosaic.Lib.Pipeline.ValueKit

@[expose] public section

set_option maxRecDepth 16384

noncomputable section

/-! One trip of the scan's loop, as a fact about contents: what is known before trip `k`, and that the trip's stores keep it. -/

namespace Cert.KernelIdeal.Scan

open Cert.KernelIdeal Cert.KernelIdeal.Gen Cert.KernelIdeal.Scan
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
open Idealize.ShloMosaic.ValueIdx

/-- What is known before trip `k`: the carried state `acc`, the states `P` of the two slots and the outputs `Y`. -/
structure Good (A : FVec F S16x2048 .f32) (bt : FVec F S16x256 .f32) (dl dx : Vec F S256x2048 .f32) (h0 : FVec F S16x2048 .f32)
    (dg : FVec F S16x256 .f32) (ct : Vec F S256x16 .f32) (k : ℕ) (acc : FVec F S16x2048 .f32)
    (P : Vec F S2x256x2048 .f32) (Y : Vec F S256x2048 .f32) : Prop where
  state : acc = hst A bt dl dx h0 k
  slot : 0 < k → ∀ y : S2x256x2048.Idx, (y 0).val = (k - 1) % 2 → P y = psv A bt dl dx h0 (k - 1) (ValueIdx.ix3 0 (y 1) (y 2))
  outs : ∀ y : S256x2048.Idx, (y 0).val / 16 + 1 < k → Y y = yall A bt dl dx h0 dg ct y

section
variable {A : FVec F S16x2048 .f32} {bt : FVec F S16x256 .f32} {dl dx : Vec F S256x2048 .f32} {h0 : FVec F S16x2048 .f32}
  {dg : FVec F S16x256 .f32} {ct : Vec F S256x16 .f32} {k : Fin k1_t1_loop.trips} {acc : FVec F S16x2048 .f32}
  {P : Vec F S2x256x2048 .f32} {Y : Vec F S256x2048 .f32}

theorem good_zero : Good A bt dl dx h0 dg ct 0 h0 P Y := ⟨rfl, fun h => absurd h (by decide), fun _ h => by omega⟩

theorem hst_succ (k : Fin k1_t1_loop.trips) : hst A bt dl dx h0 (k.val + 1) = grp A bt dl dx k (hst A bt dl dx h0 k) 16 := by
  rw [hst, kk_val]

/-- A loaded rectangle depends on its offsets alone. -/
theorem ld_congr {S : Shape} {e : EltTy} (X : S.Idx → Elt F e) (size off off' : Fin S.rank → ℕ) (h : off = off') (inb inb') :
    View.ld X (Rect.unit off size inb) = View.ld X (Rect.unit off' size inb') := by
  subst h; rfl

/-- The states of the rows of a group begun at `acc`, one under another, in whichever slot. -/
def allStates (A : FVec F S16x2048 .f32) (bt : FVec F S16x256 .f32) (dl dx : Vec F S256x2048 .f32) (k : Fin k1_t1_loop.trips)
    (acc : FVec F S16x2048 .f32) : Vec F S2x256x2048 .f32 := fun y =>
  grp A bt dl dx k acc ((y 1).val / 16 + 1) (ValueIdx.ix2 ⟨(y 1).val % 16, Nat.mod_lt _ (by decide)⟩ ⟨(y 2).val, (y 2).isLt⟩)

/-- A piece that holds the state after row `r` of group `k`, in the group's slot. -/
def Holds (A : FVec F S16x2048 .f32) (bt : FVec F S16x256 .f32) (dl dx : Vec F S256x2048 .f32) (k : Fin k1_t1_loop.trips)
    (acc : FVec F S16x2048 .f32) (r : ℕ) (p : View.Piece (Elt F) S2x256x2048 .f32) : Prop :=
  (∀ x : p.1.shape.Idx, p.2 x = allStates A bt dl dx k acc (p.1.emb x))
    ∧ ∀ y : S2x256x2048.Idx, (y 0).val = k.val % 2 → (y 1).val / 16 = r → y ∈ p.1.set

theorem holds (r : ℕ) {off : Fin 3 → ℕ} (ho : off = ![k.val % 2, 16 * r, 0]) {inb : ∀ a, off a + S1x16x2048.size a ≤ S2x256x2048.size a}
    {w : FVec F S1x16x2048 .f32} (hw : w = shapeCast S1x16x2048 (grp A bt dl dx k acc (r + 1)) shapeCasts_S16x2048_S1x16x2048) :
    Holds A bt dl dx k acc r ⟨Rect.unit (s := S2x256x2048) off S1x16x2048.size inb, w⟩ := by
  subst hw ho
  constructor
  · intro x
    obtain ⟨a, b, d, rfl⟩ : ∃ (a : Fin 1) (b : Fin 16) (d : Fin 2048), x = ValueIdx.ix3 a b d := ⟨x 0, x 1, x 2, ValueIdx.eq_ix3 x⟩
    have e1 : ((Rect.unit (s := S2x256x2048) ![k.val % 2, 16 * r, 0] S1x16x2048.size inb).emb (ValueIdx.ix3 a b d) 1).val = 16 * r + b.val := by
      show 16 * r + 1 * b.val = _
      omega
    have e2 : ((Rect.unit (s := S2x256x2048) ![k.val % 2, 16 * r, 0] S1x16x2048.size inb).emb (ValueIdx.ix3 a b d) 2).val = d.val := by
      show 0 + 1 * d.val = _
      omega
    have e := shapeCast_ab_1ab_apply (grp A bt dl dx k acc (r + 1)) shapeCasts_S16x2048_S1x16x2048 a b d
    refine Eq.trans (b := grp A bt dl dx k acc (r + 1) (ValueIdx.ix2 b d)) e ?_
    unfold allStates
    have hb := b.isLt
    have q1 : (16 * r + b.val) / 16 = r := by omega
    have q2 : (16 * r + b.val) % 16 = b.val := by omega
    simp only [e1, e2, q1, q2]
  · intro y h0 h1
    rw [Rect.mem_set_unit]
    intro a
    have h2 : (y 2).val < 2048 := (y 2).isLt
    match a with
    | 0 => show k.val % 2 ≤ (y 0).val ∧ (y 0).val < k.val % 2 + 1; omega
    | 1 => show 16 * r ≤ (y 1).val ∧ (y 1).val < 16 * r + 16; omega
    | 2 => show 0 ≤ (y 2).val ∧ (y 2).val < 0 + 2048; omega

theorem slot_step {arg22 : Memref sig .tc .vmem S2x256x2048 .f32} {c : Dev nD} {f : Buf (Elt F) (arg22.view.loc (c : Thread nD τ))}
    (hg : Good A bt dl dx h0 dg ct k acc P Y) (L : List (View.Piece (Elt F) S2x256x2048 .f32))
    (hL : List.Forall₂ (Holds A bt dl dx k acc) [15, 14, 13, 12, 11, 10, 9, 8, 7, 6, 5, 4, 3, 2, 1, 0] L) :
    0 < k.val + 1 → ∀ y : S2x256x2048.Idx, (y 0).val = (k.val + 1 - 1) % 2 →
      arg22.view.read (Elt F) (arg22.view.writes (Elt F) f L) y = psv A bt dl dx h0 (k.val + 1 - 1) (ValueIdx.ix3 0 (y 1) (y 2)) := by
  intro _ y hy
  have all : ∀ p ∈ L, ∀ x : p.1.shape.Idx, p.2 x = allStates A bt dl dx k acc (p.1.emb x) := by
    clear hg hy
    revert hL
    generalize [15, 14, 13, 12, 11, 10, 9, 8, 7, 6, 5, 4, 3, 2, 1, 0] = R
    intro hL
    induction hL with
    | nil => intro p hp; exact absurd hp List.not_mem_nil
    | cons h _ ih =>
      intro p hp
      rcases List.mem_cons.1 hp with rfl | hp
      · exact h.1
      · exact ih p hp
  have cov : ∀ r ∈ [15, 14, 13, 12, 11, 10, 9, 8, 7, 6, 5, 4, 3, 2, 1, 0], ∃ p ∈ L, ∀ y : S2x256x2048.Idx, (y 0).val = k.val % 2 → (y 1).val / 16 = r → y ∈ p.1.set := by
    clear hg hy all
    revert hL
    generalize [15, 14, 13, 12, 11, 10, 9, 8, 7, 6, 5, 4, 3, 2, 1, 0] = R
    intro hL
    induction hL with
    | nil => intro p hp; exact absurd hp List.not_mem_nil
    | cons h _ ih =>
      intro r hr
      rcases List.mem_cons.1 hr with rfl | hr
      · exact ⟨_, List.mem_cons_self, h.2⟩
      · obtain ⟨p, hp, h⟩ := ih r hr
        exact ⟨p, List.mem_cons_of_mem _ hp, h⟩
  have hr : (y 1).val / 16 ∈ [15, 14, 13, 12, 11, 10, 9, 8, 7, 6, 5, 4, 3, 2, 1, 0] := by
    have : (y 1).val < 256 := (y 1).isLt
    simp only [List.mem_cons, List.not_mem_nil, or_false]
    omega
  obtain ⟨p, hp, hc⟩ := cov _ hr
  rw [View.read_writes_apply_of_pieces _ _ _ L all y ⟨p, hp, hc y (by rw [hy, Nat.add_sub_cancel]) rfl⟩]
  rw [Nat.add_sub_cancel, psv, kk_val, ← hg.state]
  rfl

/-- The outputs of group `n - 1`, stored over what is known before trip `n`: then the outputs of `n` groups are stored. -/
theorem outs_at {arg21 : Memref sig .tc .vmem S256x2048 .f32} {c : Dev nD} {f : Buf (Elt F) (arg21.view.loc (c : Thread nD τ))} {n : ℕ}
    (hn : 0 < n) (hn' : n ≤ 16) (hg : Good A bt dl dx h0 dg ct n acc P (arg21.view.read (Elt F) f)) (w : FVec F S16x2048 .f32)
    {off1 off3 : Fin 2 → ℕ} {off2 : Fin 3 → ℕ} {inb1 inb2 inb3} (h1 : off1 = ![16 * (n - 1), 0]) (h2 : off2 = ![(n - 1) % 2, 0, 0])
    (h3 : off3 = ![16 * (n - 1), 0])
    (hw : w = k1_pay2 dg (View.ld ct (Rect.unit (s := S256x16) off1 S16x16.size inb1))
      (View.ld P (Rect.unit (s := S2x256x2048) off2 S1x256x2048.size inb2))) :
    ∀ y : S256x2048.Idx, (y 0).val / 16 + 1 < n + 1 →
      arg21.view.read (Elt F) (arg21.view.writes (Elt F) f [⟨Rect.unit (s := S256x2048) off3 S16x2048.size inb3, w⟩]) y
        = yall A bt dl dx h0 dg ct y := by
  subst h1 h2 h3
  intro y hy
  rcases Nat.lt_or_ge ((y 0).val / 16 + 1) n with h | h
  · rw [View.read_writes_cons_miss_of_axis _ _ _ _ y (0 : Fin 2) (16 * (n - 1)) 16 rfl rfl rfl (by omega), View.writes_nil]
    exact hg.outs y h
  · have hq : (y 0).val / 16 = n - 1 := by omega
    have hlt : (y 0).val < 256 := (y 0).isLt
    rw [View.read_writes_cons_hit_of_coords _ _ _ _ _
      (ValueIdx.ix2 (⟨(y 0).val % 16, Nat.mod_lt _ (by decide)⟩ : Fin 16) (⟨(y 1).val, (y 1).isLt⟩ : Fin 2048)) y ?_]
    · rw [yall, hq, hw, yg]
      congr 2
      · refine ld_congr _ _ _ _ ?_ _ _
        rw [Nat.mod_eq_of_lt (by omega : n - 1 < 16)]
      · funext z
        obtain ⟨a, b, d, rfl⟩ : ∃ (a : Fin 1) (b : Fin 256) (d : Fin 2048), z = ValueIdx.ix3 a b d := ⟨z 0, z 1, z 2, ValueIdx.eq_ix3 z⟩
        have hs := hg.slot hn (ValueIdx.ix3 (⟨(n - 1) % 2, by omega⟩ : Fin 2) b d) rfl
        obtain rfl : a = 0 := Subsingleton.elim _ _
        refine Eq.trans ?_ hs
        refine View.ld_unit_apply_of _ _ _ _ _ _ fun a => ?_
        match a with
        | 0 => rfl
        | 1 => exact (Nat.zero_add _).symm
        | 2 => exact (Nat.zero_add _).symm
    · intro a
      match a with
      | 0 => show (y 0).val = 16 * (n - 1) + 1 * ((y 0).val % 16); omega
      | 1 => show (y 1).val = 0 + 1 * (y 1).val; omega

theorem outs_step {arg21 : Memref sig .tc .vmem S256x2048 .f32} {c : Dev nD} {f : Buf (Elt F) (arg21.view.loc (c : Thread nD τ))}
    (hg : Good A bt dl dx h0 dg ct k acc P (arg21.view.read (Elt F) f)) (w : FVec F S16x2048 .f32)
    (hw : w = k1_pay2 dg (View.ld ct (Rect.unit (s := S256x16) (k1_off1 k) S16x16.size (k1_off1_inb k)))
      (View.ld P (Rect.unit (s := S2x256x2048) (k1_off2 k) S1x256x2048.size (k1_off2_inb k)))) :
    ∀ y : S256x2048.Idx, (y 0).val / 16 + 1 < k.val + 1 →
      arg21.view.read (Elt F) (arg21.view.writes (Elt F) f [⟨Rect.unit (s := S256x2048) (k1_off3 k) S16x2048.size (k1_off3_inb k), w⟩]) y
        = yall A bt dl dx h0 dg ct y := by
  intro y hy
  have hk : 0 < k.val := by omega
  have hlt : k.val < 16 := trips_eq ▸ k.isLt
  have hm : 16 * max k.val 1 - 16 = 16 * (k.val - 1) := by omega
  exact outs_at hk hlt.le hg w (by rw [k1_off1_eq, hm]) (by rw [k1_off2_eq, show 1 - k.val % 2 = (k.val - 1) % 2 by omega])
    (by rw [k1_off3_eq, hm]) hw y hy

/-- After the loop: the last group's outputs stored, the block's outputs are all there. -/
theorem outs_last {arg21 : Memref sig .tc .vmem S256x2048 .f32} {c : Dev nD} {f : Buf (Elt F) (arg21.view.loc (c : Thread nD τ))}
    (hg : Good A bt dl dx h0 dg ct 16 acc P (arg21.view.read (Elt F) f)) (w : FVec F S16x2048 .f32) {inb1 inb2 inb3}
    (hw : w = k1_pay2 dg (View.ld ct (Rect.unit (s := S256x16) ![240, 0] S16x16.size inb1))
      (View.ld P (Rect.unit (s := S2x256x2048) ![1, 0, 0] S1x256x2048.size inb2))) :
    arg21.view.read (Elt F) (arg21.view.writes (Elt F) f [⟨Rect.unit (s := S256x2048) ![240, 0] S16x2048.size inb3, w⟩])
      = yall A bt dl dx h0 dg ct :=
  funext fun y => outs_at (n := 16) (by decide) (by decide) hg w rfl rfl rfl hw y (by have : (y 0).val < 256 := (y 0).isLt; omega)

end

end Cert.KernelIdeal.Scan

end
-- ==== Proof.KILoop.lean ====
module

public import proofs.«01_k».proof.Proof.KITrip
public import proofs.«01_k».proof.Proof.Gen.KernelIdeal.Loops
public import Idealize.ShloMosaic.Lib.Tactic
public import Idealize.ShloMosaic.Lib.Pipeline.Kit

@[expose] public section

set_option maxRecDepth 16384

noncomputable section

/-! The scan's loop: before trip `k` the carried value is the state at the entry of group `k`, one slot of the two-slot buffer holds the
    states of group `k - 1`, and the outputs of the groups before that one are stored. -/

namespace Cert.KernelIdeal.Scan

open Cert.KernelIdeal Cert.KernelIdeal.Gen Cert.KernelIdeal.Scan
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

abbrev UU (nD : Nat) (τ : Topo) : Type := UR sig nD τ
abbrev 𝒱₀ : Variants := Variants.none
local notation "𝕄" => MT nD τ sig Unit (Elt F) ℕ (UU nD τ) ℕ

set_option warn.classDefReducibility false in
@[sl_loop] noncomputable def loopInv_k1_t1 (c : Dev nD) (i : grid1.Coords) (arg2 : Memref sig .tc .vmem S256x2048 .f32) (harg2 : arg2.IsWhole) (arg3 : Memref sig .tc .vmem S256x2048 .f32) (harg3 : arg3.IsWhole) (arg4 : Memref sig .tc .vmem S256x1024 .f32) (harg4 : arg4.IsWhole) (arg5 : Memref sig .tc .vmem S4x2048 .f32) (harg5 : arg5.IsWhole) (arg6 : Memref sig .tc .vmem S1x2048 .f32) (harg6 : arg6.IsWhole) (arg7 : Memref sig .tc .vmem S2048x2048 .f32) (harg7 : arg7.IsWhole) (arg8 : Memref sig .tc .vmem S1x2048 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S16x2048 .f32) (harg11 : arg11.IsWhole) (arg12 : Memref sig .tc .vmem S1x2048 .f32) (harg12 : arg12.IsWhole) (arg13 : Memref sig .tc .vmem S2048x1024 .f32) (harg13 : arg13.IsWhole) (arg14 : Memref sig .tc .vmem S256x1024 .f32) (harg14 : arg14.IsWhole) (arg15 : Memref sig .tc .vmem S16x2048 .f32) (harg15 : arg15.IsWhole) (arg16 : Memref sig .tc .vmem S16x2048 .f32) (harg16 : arg16.IsWhole) (arg17 : Memref sig .tc .vmem S256x2048 .f32) (harg17 : arg17.IsWhole) (arg18 : Memref sig .tc .vmem S256x2048 .f32) (harg18 : arg18.IsWhole) (arg19 : Memref sig .tc .vmem S256x2048 .f32) (harg19 : arg19.IsWhole) (arg20 : Memref sig .tc .vmem S256x16 .f32) (harg20 : arg20.IsWhole) (arg21 : Memref sig .tc .vmem S256x2048 .f32) (harg21 : arg21.IsWhole) (arg22 : Memref sig .tc .vmem S2x256x2048 .f32) (harg22 : arg22.IsWhole)
    (f18 : Buf (Elt F) (arg18.view.loc (c : Thread nD τ))) (f19 : Buf (Elt F) (arg19.view.loc (c : Thread nD τ))) (f20 : Buf (Elt F) (arg20.view.loc (c : Thread nD τ)))
    (v74 : FVec F S16x256 .f32) (v81 : FVec F S16x2048 .f32) (v83 : FVec F S1x2048 .f32) (v113 : IVec S16x256 32) (init : Vec F S16x2048 .f32) :
    LoopInvTy_k1_t1 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v74 v81 v83 v113 init where
  inv := fun k acc => iprop(
    (arg18.view.loc (c : Thread nD τ) ↦[arg18.view.set]{fullShare} f18) ∗ (arg19.view.loc (c : Thread nD τ) ↦[arg19.view.set]{fullShare} f19)
    ∗ (arg20.view.loc (c : Thread nD τ) ↦[arg20.view.set]{fullShare} f20)
    ∗ ∃ P Y, (arg22.view.loc (c : Thread nD τ) ↦[arg22.view.set]{fullShare} P) ∗ (arg21.view.loc (c : Thread nD τ) ↦[arg21.view.set]{fullShare} Y)
      ∗ ⌜Good v81 v74 (arg18.view.read (Elt F) f18) (arg19.view.read (Elt F) f19) init (k1_pay53 v113) (arg20.view.read (Elt F) f20) k acc
          (arg22.view.read (Elt F) P) (arg21.view.read (Elt F) Y)⌝)
  step := fun k acc => by
    unfold k1_t1_body k1_part1 k1_part2 k1_part3 k1_part4 k1_part5
    iintro ⟨H18, H19, H20, %P, %Y, H22, H21, %hg⟩
    sl_exec
    sl_step
    isplitl [H18]; · iexact H18
    isplitl [H19]; · iexact H19
    isplitl [H20]; · iexact H20
    iexists _; iexists _
    isplitl [H22]; · iexact H22
    isplitl [H21]; · iexact H21
    ipureintro
    refine ⟨?_, ?_, ?_⟩
    · rw [hst_succ k, ← hg.state]; rfl
    · exact slot_step hg _ (.cons (holds 15 (k1_off20_eq k) rfl) (.cons (holds 14 (k1_off19_eq k) rfl)
        (.cons (holds 13 (k1_off18_eq k) rfl) (.cons (holds 12 (k1_off17_eq k) rfl) (.cons (holds 11 (k1_off16_eq k) rfl)
        (.cons (holds 10 (k1_off15_eq k) rfl) (.cons (holds 9 (k1_off14_eq k) rfl) (.cons (holds 8 (k1_off13_eq k) rfl)
        (.cons (holds 7 (k1_off12_eq k) rfl) (.cons (holds 6 (k1_off11_eq k) rfl) (.cons (holds 5 (k1_off10_eq k) rfl)
        (.cons (holds 4 (k1_off9_eq k) rfl) (.cons (holds 3 (k1_off8_eq k) rfl) (.cons (holds 2 (k1_off7_eq k) rfl)
        (.cons (holds 1 (k1_off6_eq k) rfl) (.cons (holds 0 (k1_off5_eq k) rfl) .nil))))))))))))))))
    · exact outs_step hg _ rfl

end Cert.KernelIdeal.Scan

end
-- ==== Proof.KIPart9.lean ====
module

public import proofs.«01_k».proof.Proof.KIBlock
public import proofs.«01_k».proof.Proof.Whole
public import proofs.«01_k».proof.Proof.KILoop
public import Idealize.ShloMosaic.Lib.Pipeline.FrameBody

@[expose] public section

set_option maxRecDepth 16384

noncomputable section

/-! The scan of one block and what is made of its outputs, on whatever memory it is given. -/

namespace Cert.KernelIdeal.Scan

open Cert.KernelIdeal Cert.KernelIdeal.Gen Cert.KernelIdeal.Scan
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
open Cert.Whole

local notation "𝕄" => MT nD τ sig Unit (Elt F) ℕ (UU nD τ) ℕ

section
variable (c : Dev nD) (i : grid1.Coords) (arg2 : Memref sig .tc .vmem S256x2048 .f32) (harg2 : arg2.IsWhole) (arg3 : Memref sig .tc .vmem S256x2048 .f32) (harg3 : arg3.IsWhole) (arg4 : Memref sig .tc .vmem S256x1024 .f32) (harg4 : arg4.IsWhole) (arg5 : Memref sig .tc .vmem S4x2048 .f32) (harg5 : arg5.IsWhole) (arg6 : Memref sig .tc .vmem S1x2048 .f32) (harg6 : arg6.IsWhole) (arg7 : Memref sig .tc .vmem S2048x2048 .f32) (harg7 : arg7.IsWhole) (arg8 : Memref sig .tc .vmem S1x2048 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S16x2048 .f32) (harg11 : arg11.IsWhole) (arg12 : Memref sig .tc .vmem S1x2048 .f32) (harg12 : arg12.IsWhole) (arg13 : Memref sig .tc .vmem S2048x1024 .f32) (harg13 : arg13.IsWhole) (arg14 : Memref sig .tc .vmem S256x1024 .f32) (harg14 : arg14.IsWhole) (arg15 : Memref sig .tc .vmem S16x2048 .f32) (harg15 : arg15.IsWhole) (arg16 : Memref sig .tc .vmem S16x2048 .f32) (harg16 : arg16.IsWhole) (arg17 : Memref sig .tc .vmem S256x2048 .f32) (harg17 : arg17.IsWhole) (arg18 : Memref sig .tc .vmem S256x2048 .f32) (harg18 : arg18.IsWhole) (arg19 : Memref sig .tc .vmem S256x2048 .f32) (harg19 : arg19.IsWhole) (arg20 : Memref sig .tc .vmem S256x16 .f32) (harg20 : arg20.IsWhole) (arg21 : Memref sig .tc .vmem S256x2048 .f32) (harg21 : arg21.IsWhole) (arg22 : Memref sig .tc .vmem S2x256x2048 .f32) (harg22 : arg22.IsWhole)
  (v74 : FVec F S16x256 .f32) (v81 : FVec F S16x2048 .f32) (v83 : FVec F S1x2048 .f32) (dl dx : Vec F S256x2048 .f32)
  (ct : Vec F S256x16 .f32) (H : Vec F S16x2048 .f32) (Z XB : Vec F S256x2048 .f32)

theorem part9_run :
    (iprop(owns (c : Thread nD τ) arg15 fullShare H ∗ owns (c : Thread nD τ) arg18 fullShare dl ∗ owns (c : Thread nD τ) arg19 fullShare dx
      ∗ owns (c : Thread nD τ) arg20 fullShare ct ∗ (∃ d, owns (c : Thread nD τ) arg21 fullShare d) ∗ (∃ d, owns (c : Thread nD τ) arg22 fullShare d)
      ∗ owns (c : Thread nD τ) arg3 fullShare Z ∗ owns (c : Thread nD τ) arg17 fullShare XB) : sProp 𝕄)
    ⊢ wp frame (wpE (defs₀ (F := F)) 𝒱₀ (c : Thread nD τ) none) Set.univ (k1_part9 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v74 v81 v83 k1_pay52) fun r =>
      iprop(⌜r = k1_pay61 v83 Z (yall v81 v74 dl dx H (k1_pay53 k1_pay52) ct) XB⌝
      ∗ owns (c : Thread nD τ) arg15 fullShare (k1_pay59 (hst v81 v74 dl dx H 16)) ∗ owns (c : Thread nD τ) arg18 fullShare dl ∗ owns (c : Thread nD τ) arg19 fullShare dx
      ∗ owns (c : Thread nD τ) arg20 fullShare ct ∗ (∃ d, owns (c : Thread nD τ) arg21 fullShare d) ∗ (∃ d, owns (c : Thread nD τ) arg22 fullShare d)
      ∗ owns (c : Thread nD τ) arg3 fullShare Z ∗ owns (c : Thread nD τ) arg17 fullShare XB) := by
  rw [k1_part9_eq_skeleton]
  unfold k1_part9_skel owns
  iintro ⟨⟨%f15, %h15, H15⟩, ⟨%f18, %h18, H18⟩, ⟨%f19, %h19, H19⟩, ⟨%f20, %h20, H20⟩, ⟨%d21, %f21, %h21, H21⟩, ⟨%d22, %f22, %h22, H22⟩,
    ⟨%f3, %h3, H3⟩, ⟨%f17, %h17, H17⟩⟩
  subst h15 h18 h19 h20 h3 h17
  have hG : Good v81 v74 (arg18.view.read (Elt F) f18) (arg19.view.read (Elt F) f19)
      (View.readAt (Elt F) arg15.view (Rect.unit (s := S16x2048) ![0, 0] S16x2048.size inb_S16x2048_S16x2048_0_0).toLoadRect f15)
      (k1_pay53 k1_pay52) (arg20.view.read (Elt F) f20) 0
      (View.readAt (Elt F) arg15.view (Rect.unit (s := S16x2048) ![0, 0] S16x2048.size inb_S16x2048_S16x2048_0_0).toLoadRect f15)
      (arg22.view.read (Elt F) f22) (arg21.view.read (Elt F) f21) := good_zero
  sl_exec
  sl_step
  have e15 := load_whole arg15.view f15 z2 inb_S16x2048_S16x2048_0_0
  rw [e15] at hL5
  have eY : arg21.view.read (Elt F) (arg21.view.writes (Elt F) YL1 (part9_run.sl.H21_1 c arg20 arg22 f20 PL0))
      = yall v81 v74 (arg18.view.read (Elt F) f18) (arg19.view.read (Elt F) f19) (arg15.view.read (Elt F) f15) (k1_pay53 k1_pay52) (arg20.view.read (Elt F) f20) :=
    outs_last hL5 _ rfl
  isplitr
  · ipureintro
    have e3 := load_whole arg3.view f3 z2 inb_S256x2048_S256x2048_0_0
    have e17 := load_whole arg17.view f17 z2 inb_S256x2048_S256x2048_0_0
    have e21 := load_whole arg21.view (arg21.view.writes (Elt F) YL1 (part9_run.sl.H21_1 c arg20 arg22 f20 PL0)) z2 inb_S256x2048_S256x2048_0_0
    rw [e3, e17, e21, eY]
  isplitl [H15]
  · iexists _; isplitr; swap; (· iexact H15)
    ipureintro
    exact (store_whole arg15.view f15 z2 inb_S16x2048_S16x2048_0_0 _).trans (congrArg k1_pay59 hL5.state)
  isplitl [H18]; · iexists _; isplitr; swap; (· iexact H18); ipureintro; rfl
  isplitl [H19]; · iexists _; isplitr; swap; (· iexact H19); ipureintro; rfl
  isplitl [H20]; · iexists _; isplitr; swap; (· iexact H20); ipureintro; rfl
  isplitl [H21]; · iexists _; iexists _; isplitr; swap; (· iexact H21); ipureintro; rfl
  isplitl [H22]; · iexists _; iexists _; isplitr; swap; (· iexact H22); ipureintro; rfl
  isplitl [H3]; · iexists _; isplitr; swap; (· iexact H3); ipureintro; rfl
  iexists _; isplitr; swap; (· iexact H17); ipureintro; rfl

end

end Cert.KernelIdeal.Scan

end
-- ==== Proof.KIBody.lean ====
module

public import proofs.«01_k».proof.Proof.KIPart9

@[expose] public section

set_option maxRecDepth 16384

noncomputable section

/-! The fused kernel's body at one grid point, on whatever memory it is given: it leaves the block's result, state and last rows. -/

namespace Cert.KernelIdeal.Scan

open Cert.KernelIdeal Cert.KernelIdeal.Gen Cert.KernelIdeal.Scan
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
open Cert.Whole

local notation "𝕄" => MT nD τ sig Unit (Elt F) ℕ (UU nD τ) ℕ

/-- The state or the last rows that a block starts from: zeros at the first block of a sequence, else what the block before left. -/
def startH (b : Bool) (H : Vec F S16x2048 .f32) : Vec F S16x2048 .f32 := if b then k1_pay38 else H
def startT (b : Bool) (T : Vec F S16x2048 .f32) : Vec F S16x2048 .f32 := if b then k1_pay39 else T

section
variable (c : Dev nD) (i : grid1.Coords) (arg2 : Memref sig .tc .vmem S256x2048 .f32) (harg2 : arg2.IsWhole) (arg3 : Memref sig .tc .vmem S256x2048 .f32) (harg3 : arg3.IsWhole) (arg4 : Memref sig .tc .vmem S256x1024 .f32) (harg4 : arg4.IsWhole) (arg5 : Memref sig .tc .vmem S4x2048 .f32) (harg5 : arg5.IsWhole) (arg6 : Memref sig .tc .vmem S1x2048 .f32) (harg6 : arg6.IsWhole) (arg7 : Memref sig .tc .vmem S2048x2048 .f32) (harg7 : arg7.IsWhole) (arg8 : Memref sig .tc .vmem S1x2048 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S16x2048 .f32) (harg11 : arg11.IsWhole) (arg12 : Memref sig .tc .vmem S1x2048 .f32) (harg12 : arg12.IsWhole) (arg13 : Memref sig .tc .vmem S2048x1024 .f32) (harg13 : arg13.IsWhole) (arg14 : Memref sig .tc .vmem S256x1024 .f32) (harg14 : arg14.IsWhole) (arg15 : Memref sig .tc .vmem S16x2048 .f32) (harg15 : arg15.IsWhole) (arg16 : Memref sig .tc .vmem S16x2048 .f32) (harg16 : arg16.IsWhole) (arg17 : Memref sig .tc .vmem S256x2048 .f32) (harg17 : arg17.IsWhole) (arg18 : Memref sig .tc .vmem S256x2048 .f32) (harg18 : arg18.IsWhole) (arg19 : Memref sig .tc .vmem S256x2048 .f32) (harg19 : arg19.IsWhole) (arg20 : Memref sig .tc .vmem S256x16 .f32) (harg20 : arg20.IsWhole) (arg21 : Memref sig .tc .vmem S256x2048 .f32) (harg21 : arg21.IsWhole) (arg22 : Memref sig .tc .vmem S2x256x2048 .f32) (harg22 : arg22.IsWhole)
  (W : Wts F) (X Z : Vec F S256x2048 .f32) (R : Vec F S256x1024 .f32) (H T : Vec F S16x2048 .f32)

/-- The convolution of the block, after the first block's reset. -/
theorem part6_run (b : Bool)
    (hb : Scalar.cmpi .ne (Scalar.extui (Scalar.cmpi .eq (BitVec.ofNat 32 (i 1).val) 0#32) : BitVec 32) 0#32 = 1#1 ↔ b = true) :
    (iprop(owns (c : Thread nD τ) arg15 fullShare H
      ∗ owns (c : Thread nD τ) arg16 fullShare T
      ∗ owns (c : Thread nD τ) arg2 fullShare X
      ∗ owns (c : Thread nD τ) arg5 fullShare W.cw
      ∗ owns (c : Thread nD τ) arg6 fullShare W.cb) : sProp 𝕄)
    ⊢ wp frame (wpE (defs₀ (F := F)) 𝒱₀ (c : Thread nD τ) none) Set.univ (k1_part6 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) fun r =>
      iprop(⌜r = ⟨k1_pay40 X, convB W X (startT b T)⟩⌝
      ∗ owns (c : Thread nD τ) arg15 fullShare (startH b H)
      ∗ owns (c : Thread nD τ) arg16 fullShare (startT b T)
      ∗ owns (c : Thread nD τ) arg2 fullShare X
      ∗ owns (c : Thread nD τ) arg5 fullShare W.cw
      ∗ owns (c : Thread nD τ) arg6 fullShare W.cb) := by
  rw [k1_part6_eq_skeleton]
  unfold k1_part6_skel owns
  iintro ⟨⟨%f15, %h15, H15⟩, ⟨%f16, %h16, H16⟩, ⟨%f2, %h2, H2⟩, ⟨%f5, %h5, H5⟩, ⟨%f6, %h6, H6⟩⟩
  have e2 := load_whole arg2.view f2 z2 inb_S256x2048_S256x2048_0_0
  have e6 := load_whole arg6.view f6 z2 inb_S1x2048_S1x2048_0_0
  rw [h2] at e2; rw [h6] at e6
  cases b with
  | true =>
    have hc := hb.2 rfl
    sl_exec
    sl_step
    have r15 := store_whole arg15.view f15 z2 inb_S16x2048_S16x2048_0_0 (k1_pay38 (F := F))
    have r16 := store_whole arg16.view f16 z2 inb_S16x2048_S16x2048_0_0 (k1_pay39 (F := F))
    isplitr
    · ipureintro
      have r := fun f : arg16.view.ty.Contents (Elt F) => store_whole arg16.view f z2 inb_S16x2048_S16x2048_0_0 (k1_pay39 (F := F))
      have c15 : part6_run.sl.v13 c arg16
          = View.ld (k1_pay39 (F := F)) (Rect.unit (s := S16x2048) ![15, 0] S1x2048.size inb_S16x2048_S1x2048_15_0) :=
        congrArg (fun A => View.ld A (Rect.unit (s := S16x2048) ![15, 0] S1x2048.size inb_S16x2048_S1x2048_15_0)) (r _)
      have c14 : part6_run.sl.v21 c arg16
          = View.ld (k1_pay39 (F := F)) (Rect.unit (s := S16x2048) ![14, 0] S2x2048.size inb_S16x2048_S2x2048_14_0) :=
        congrArg (fun A => View.ld A (Rect.unit (s := S16x2048) ![14, 0] S2x2048.size inb_S16x2048_S2x2048_14_0)) (r _)
      have c13 : part6_run.sl.v29 c arg16
          = View.ld (k1_pay39 (F := F)) (Rect.unit (s := S16x2048) ![13, 0] S3x2048.size inb_S16x2048_S3x2048_13_0) :=
        congrArg (fun A => View.ld A (Rect.unit (s := S16x2048) ![13, 0] S3x2048.size inb_S16x2048_S3x2048_13_0)) (r _)
      rw [c15, c14, c13]
      simp only [View.readAt_eq_ld, h5]
      rfl
    isplitl [H15]; · iexists _; isplitr; swap; (· iexact H15); ipureintro; exact r15
    isplitl [H16]; · iexists _; isplitr; swap; (· iexact H16); ipureintro; exact r16
    isplitl [H2]; · iexists _; isplitr; swap; (· iexact H2); ipureintro; exact h2
    isplitl [H5]; · iexists _; isplitr; swap; (· iexact H5); ipureintro; exact h5
    iexists _; isplitr; swap; (· iexact H6); ipureintro; exact h6
  | false =>
    have hc : ¬ Scalar.cmpi .ne (Scalar.extui (Scalar.cmpi .eq (BitVec.ofNat 32 (i 1).val) 0#32) : BitVec 32) 0#32 = 1#1 :=
      fun h => Bool.false_ne_true (hb.1 h)
    sl_exec
    sl_step
    isplitr
    · ipureintro
      simp only [View.readAt_eq_ld, h5, h16]
      rfl
    isplitl [H15]; · iexists _; isplitr; swap; (· iexact H15); ipureintro; exact h15
    isplitl [H16]; · iexists _; isplitr; swap; (· iexact H16); ipureintro; exact h16
    isplitl [H2]; · iexists _; isplitr; swap; (· iexact H2); ipureintro; exact h2
    isplitl [H5]; · iexists _; isplitr; swap; (· iexact H5); ipureintro; exact h5
    iexists _; isplitr; swap; (· iexact H6); ipureintro; exact h6

end

end Cert.KernelIdeal.Scan

end
-- ==== Proof.KIBodyRun.lean ====
module

public import proofs.«01_k».proof.Proof.KIBody

@[expose] public section

set_option maxRecDepth 16384

noncomputable section

/-! The fused kernel's body from the convolution on. -/

namespace Cert.KernelIdeal.Scan

open Cert.KernelIdeal Cert.KernelIdeal.Gen Cert.KernelIdeal.Scan
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
open Cert.Whole

local notation "𝕄" => MT nD τ sig Unit (Elt F) ℕ (UU nD τ) ℕ

section
variable (c : Dev nD) (i : grid1.Coords) (arg2 : Memref sig .tc .vmem S256x2048 .f32) (harg2 : arg2.IsWhole) (arg3 : Memref sig .tc .vmem S256x2048 .f32) (harg3 : arg3.IsWhole) (arg4 : Memref sig .tc .vmem S256x1024 .f32) (harg4 : arg4.IsWhole) (arg5 : Memref sig .tc .vmem S4x2048 .f32) (harg5 : arg5.IsWhole) (arg6 : Memref sig .tc .vmem S1x2048 .f32) (harg6 : arg6.IsWhole) (arg7 : Memref sig .tc .vmem S2048x2048 .f32) (harg7 : arg7.IsWhole) (arg8 : Memref sig .tc .vmem S1x2048 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S16x2048 .f32) (harg11 : arg11.IsWhole) (arg12 : Memref sig .tc .vmem S1x2048 .f32) (harg12 : arg12.IsWhole) (arg13 : Memref sig .tc .vmem S2048x1024 .f32) (harg13 : arg13.IsWhole) (arg14 : Memref sig .tc .vmem S256x1024 .f32) (harg14 : arg14.IsWhole) (arg15 : Memref sig .tc .vmem S16x2048 .f32) (harg15 : arg15.IsWhole) (arg16 : Memref sig .tc .vmem S16x2048 .f32) (harg16 : arg16.IsWhole) (arg17 : Memref sig .tc .vmem S256x2048 .f32) (harg17 : arg17.IsWhole) (arg18 : Memref sig .tc .vmem S256x2048 .f32) (harg18 : arg18.IsWhole) (arg19 : Memref sig .tc .vmem S256x2048 .f32) (harg19 : arg19.IsWhole) (arg20 : Memref sig .tc .vmem S256x16 .f32) (harg20 : arg20.IsWhole) (arg21 : Memref sig .tc .vmem S256x2048 .f32) (harg21 : arg21.IsWhole) (arg22 : Memref sig .tc .vmem S2x256x2048 .f32) (harg22 : arg22.IsWhole)
  (W : Wts F) (X Z : Vec F S256x2048 .f32) (R : Vec F S256x1024 .f32) (H T : Vec F S16x2048 .f32)

/-- The activation and the step sizes. -/
theorem part7_run :
    (iprop(owns (c : Thread nD τ) arg16 fullShare T
      ∗ (∃ d, owns (c : Thread nD τ) arg17 fullShare d)
      ∗ (∃ d, owns (c : Thread nD τ) arg18 fullShare d)
      ∗ (∃ d, owns (c : Thread nD τ) arg19 fullShare d)
      ∗ owns (c : Thread nD τ) arg7 fullShare W.wd
      ∗ owns (c : Thread nD τ) arg8 fullShare W.bd) : sProp 𝕄)
    ⊢ wp frame (wpE (defs₀ (F := F)) 𝒱₀ (c : Thread nD τ) none) Set.univ (k1_part7 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (k1_pay40 X) (convB W X T)) fun r =>
      iprop(⌜r = xbB W X T⌝
      ∗ owns (c : Thread nD τ) arg16 fullShare (tlB X)
      ∗ owns (c : Thread nD τ) arg17 fullShare (k1_pay44 (convB W X T))
      ∗ owns (c : Thread nD τ) arg18 fullShare (dlB W X T)
      ∗ owns (c : Thread nD τ) arg19 fullShare (dxB W X T)
      ∗ owns (c : Thread nD τ) arg7 fullShare W.wd
      ∗ owns (c : Thread nD τ) arg8 fullShare W.bd) := by
  rw [k1_part7_eq_skeleton]
  unfold k1_part7_skel owns
  iintro ⟨⟨%f16, %h16, H16⟩, ⟨%d17, %f17, %h17, H17⟩, ⟨%d18, %f18, %h18, H18⟩, ⟨%d19, %f19, %h19, H19⟩, ⟨%f7, %h7, H7⟩, ⟨%f8, %h8, H8⟩⟩
  have e7 := load_whole arg7.view f7 z2 inb_S2048x2048_S2048x2048_0_0
  have e8 := load_whole arg8.view f8 z2 inb_S1x2048_S1x2048_0_0
  rw [h7] at e7; rw [h8] at e8
  sl_exec
  sl_step
  isplitr; · ipureintro; rfl
  isplitl [H16]; · iexists _; isplitr; swap; (· iexact H16); ipureintro; exact store_whole _ _ z2 _ _
  isplitl [H17]; · iexists _; isplitr; swap; (· iexact H17); ipureintro; exact store_whole _ _ z2 _ _
  isplitl [H18]; · iexists _; isplitr; swap; (· iexact H18); ipureintro; exact store_whole _ _ z2 _ _
  isplitl [H19]; · iexists _; isplitr; swap; (· iexact H19); ipureintro; exact store_whole _ _ z2 _ _
  isplitl [H7]; · iexists _; isplitr; swap; (· iexact H7); ipureintro; exact h7
  iexists _; isplitr; swap; (· iexact H8); ipureintro; exact h8

/-- The rows of `B` and `C`. -/
theorem part8_run :
    (iprop((∃ d, owns (c : Thread nD τ) arg20 fullShare d)
      ∗ owns (c : Thread nD τ) arg9 fullShare W.wb
      ∗ owns (c : Thread nD τ) arg10 fullShare W.wc
      ∗ owns (c : Thread nD τ) arg11 fullShare W.la
      ∗ owns (c : Thread nD τ) arg12 fullShare W.dp) : sProp 𝕄)
    ⊢ wp frame (wpE (defs₀ (F := F)) 𝒱₀ (c : Thread nD τ) none) Set.univ (k1_part8 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (xbB W X T)) fun r =>
      iprop(⌜r = ⟨btB W X T, k1_pay50 W.la, k1_pay51 W.dp, k1_pay52⟩⌝
      ∗ owns (c : Thread nD τ) arg20 fullShare (ctB W X T)
      ∗ owns (c : Thread nD τ) arg9 fullShare W.wb
      ∗ owns (c : Thread nD τ) arg10 fullShare W.wc
      ∗ owns (c : Thread nD τ) arg11 fullShare W.la
      ∗ owns (c : Thread nD τ) arg12 fullShare W.dp) := by
  rw [k1_part8_eq_skeleton]
  unfold k1_part8_skel owns
  iintro ⟨⟨%d20, %f20, %h20, H20⟩, ⟨%f9, %h9, H9⟩, ⟨%f10, %h10, H10⟩, ⟨%f11, %h11, H11⟩, ⟨%f12, %h12, H12⟩⟩
  have e9 := load_whole arg9.view f9 z2 inb_S2048x16_S2048x16_0_0
  have e10 := load_whole arg10.view f10 z2 inb_S2048x16_S2048x16_0_0
  have e11 := load_whole arg11.view f11 z2 inb_S16x2048_S16x2048_0_0
  have e12 := load_whole arg12.view f12 z2 inb_S1x2048_S1x2048_0_0
  rw [h9] at e9; rw [h10] at e10; rw [h11] at e11; rw [h12] at e12
  sl_exec
  sl_step
  isplitr; · ipureintro; rfl
  isplitl [H20]; · iexists _; isplitr; swap; (· iexact H20); ipureintro; exact store_whole _ _ z2 _ _
  isplitl [H9]; · iexists _; isplitr; swap; (· iexact H9); ipureintro; exact h9
  isplitl [H10]; · iexists _; isplitr; swap; (· iexact H10); ipureintro; exact h10
  isplitl [H11]; · iexists _; isplitr; swap; (· iexact H11); ipureintro; exact h11
  iexists _; isplitr; swap; (· iexact H12); ipureintro; exact h12

/-- The whole body. -/
theorem body_run (b : Bool)
    (hb : Scalar.cmpi .ne (Scalar.extui (Scalar.cmpi .eq (BitVec.ofNat 32 (i 1).val) 0#32) : BitVec 32) 0#32 = 1#1 ↔ b = true) :
    (iprop(owns (c : Thread nD τ) arg2 fullShare X
      ∗ owns (c : Thread nD τ) arg3 fullShare Z
      ∗ owns (c : Thread nD τ) arg4 fullShare R
      ∗ owns (c : Thread nD τ) arg5 fullShare W.cw
      ∗ owns (c : Thread nD τ) arg6 fullShare W.cb
      ∗ owns (c : Thread nD τ) arg7 fullShare W.wd
      ∗ owns (c : Thread nD τ) arg8 fullShare W.bd
      ∗ owns (c : Thread nD τ) arg9 fullShare W.wb
      ∗ owns (c : Thread nD τ) arg10 fullShare W.wc
      ∗ owns (c : Thread nD τ) arg11 fullShare W.la
      ∗ owns (c : Thread nD τ) arg12 fullShare W.dp
      ∗ owns (c : Thread nD τ) arg13 fullShare W.wo
      ∗ (∃ d, owns (c : Thread nD τ) arg14 fullShare d)
      ∗ owns (c : Thread nD τ) arg15 fullShare H
      ∗ owns (c : Thread nD τ) arg16 fullShare T
      ∗ (∃ d, owns (c : Thread nD τ) arg17 fullShare d)
      ∗ (∃ d, owns (c : Thread nD τ) arg18 fullShare d)
      ∗ (∃ d, owns (c : Thread nD τ) arg19 fullShare d)
      ∗ (∃ d, owns (c : Thread nD τ) arg20 fullShare d)
      ∗ (∃ d, owns (c : Thread nD τ) arg21 fullShare d)
      ∗ (∃ d, owns (c : Thread nD τ) arg22 fullShare d)) : sProp 𝕄)
    ⊢ wp frame (wpE (defs₀ (F := F)) 𝒱₀ (c : Thread nD τ) none) Set.univ (cc1__fused_kernel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) fun _ =>
      iprop(owns (c : Thread nD τ) arg2 fullShare X
      ∗ owns (c : Thread nD τ) arg3 fullShare Z
      ∗ owns (c : Thread nD τ) arg4 fullShare R
      ∗ owns (c : Thread nD τ) arg5 fullShare W.cw
      ∗ owns (c : Thread nD τ) arg6 fullShare W.cb
      ∗ owns (c : Thread nD τ) arg7 fullShare W.wd
      ∗ owns (c : Thread nD τ) arg8 fullShare W.bd
      ∗ owns (c : Thread nD τ) arg9 fullShare W.wb
      ∗ owns (c : Thread nD τ) arg10 fullShare W.wc
      ∗ owns (c : Thread nD τ) arg11 fullShare W.la
      ∗ owns (c : Thread nD τ) arg12 fullShare W.dp
      ∗ owns (c : Thread nD τ) arg13 fullShare W.wo
      ∗ owns (c : Thread nD τ) arg14 fullShare (outB W X (startT b T) (startH b H) Z R)
      ∗ owns (c : Thread nD τ) arg15 fullShare (hB W X (startT b T) (startH b H))
      ∗ owns (c : Thread nD τ) arg16 fullShare (tlB X)
      ∗ (∃ d, owns (c : Thread nD τ) arg17 fullShare d)
      ∗ (∃ d, owns (c : Thread nD τ) arg18 fullShare d)
      ∗ (∃ d, owns (c : Thread nD τ) arg19 fullShare d)
      ∗ (∃ d, owns (c : Thread nD τ) arg20 fullShare d)
      ∗ (∃ d, owns (c : Thread nD τ) arg21 fullShare d)
      ∗ (∃ d, owns (c : Thread nD τ) arg22 fullShare d)) := by
  rw [cc1__fused_kernel_eq_skeleton]
  unfold cc1__fused_kernel_skel
  iintro ⟨H2, H3, H4, H5, H6, H7, H8, H9, H10, H11, H12, H13, H14, H15, H16, H17, H18, H19, H20, H21, H22⟩
  rw [wp_bind]
  iapply (wp_wand_r Idealize.ShloMosaic.frame (wpE (defs₀ (F := F)) 𝒱₀ (c : Thread nD τ) none) Set.univ)
  isplitl [H15 H16 H2 H5 H6]
  · iapply (part6_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 W X H T b hb)
    isplitl [H15]; · iexact H15
    isplitl [H16]; · iexact H16
    isplitl [H2]; · iexact H2
    isplitl [H5]; · iexact H5
    iexact H6
  iintro %r ⟨%hr, H15, H16, H2, H5, H6⟩
  subst hr
  dsimp only
  rw [wp_bind]
  iapply (wp_wand_r Idealize.ShloMosaic.frame (wpE (defs₀ (F := F)) 𝒱₀ (c : Thread nD τ) none) Set.univ)
  isplitl [H16 H17 H18 H19 H7 H8]
  · iapply (part7_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 W X (startT b T))
    isplitl [H16]; · iexact H16
    isplitl [H17]; · iexact H17
    isplitl [H18]; · iexact H18
    isplitl [H19]; · iexact H19
    isplitl [H7]; · iexact H7
    iexact H8
  iintro %r ⟨%hr, H16, H17, H18, H19, H7, H8⟩
  subst hr
  rw [wp_bind]
  iapply (wp_wand_r Idealize.ShloMosaic.frame (wpE (defs₀ (F := F)) 𝒱₀ (c : Thread nD τ) none) Set.univ)
  isplitl [H20 H9 H10 H11 H12]
  · iapply (part8_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 W X (startT b T))
    isplitl [H20]; · iexact H20
    isplitl [H9]; · iexact H9
    isplitl [H10]; · iexact H10
    isplitl [H11]; · iexact H11
    iexact H12
  iintro %r ⟨%hr, H20, H9, H10, H11, H12⟩
  subst hr
  dsimp only
  rw [wp_bind]
  iapply (wp_wand_r Idealize.ShloMosaic.frame (wpE (defs₀ (F := F)) 𝒱₀ (c : Thread nD τ) none) Set.univ)
  isplitl [H15 H18 H19 H20 H21 H22 H3 H17]
  · iapply (part9_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (btB W X (startT b T)) (k1_pay50 W.la) (k1_pay51 W.dp) (dlB W X (startT b T)) (dxB W X (startT b T))
      (ctB W X (startT b T)) (startH b H) Z (k1_pay44 (convB W X (startT b T))))
    isplitl [H15]; · iexact H15
    isplitl [H18]; · iexact H18
    isplitl [H19]; · iexact H19
    isplitl [H20]; · iexact H20
    isplitl [H21]; · iexact H21
    isplitl [H22]; · iexact H22
    isplitl [H3]; · iexact H3
    iexact H17
  iintro %r ⟨%hr, H15, H18, H19, H20, H21, H22, H3, H17⟩
  subst hr
  unfold owns
  icases H13 with ⟨%f13, %h13, H13⟩
  icases H4 with ⟨%f4, %h4, H4⟩
  icases H14 with ⟨%d14, %f14, %h14, H14⟩
  have e4 := load_whole arg4.view f4 z2 inb_S256x1024_S256x1024_0_0
  rw [h4] at e4
  have e13 := load_whole arg13.view f13 z2 inb_S2048x1024_S2048x1024_0_0
  rw [h13] at e13
  sl_exec
  sl_step
  isplitl [H2]; · iexact H2
  isplitl [H3]; · iexact H3
  isplitl [H4]; · iexists _; isplitr; swap; (· iexact H4); ipureintro; exact h4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; isplitr; swap; (· iexact H13); ipureintro; exact h13
  isplitl [H14]; · iexists _; isplitr; swap; (· iexact H14); ipureintro; exact store_whole _ _ z2 _ _
  isplitl [H15]; · iexact H15
  isplitl [H16]; · iexact H16
  isplitl [H17]; · iexists _; iexact H17
  isplitl [H18]; · iexists _; iexact H18
  isplitl [H19]; · iexists _; iexact H19
  isplitl [H20]; · iexists _; iexact H20
  isplitl [H21]; · iexact H21
  iexact H22

end

end Cert.KernelIdeal.Scan

end
-- ==== Proof.KIRegion0.lean ====
module

public import proofs.«01_k».proof.Proof.KIBodyRun
public import proofs.«01_k».proof.Proof.Gen.KernelIdeal.Points
public import proofs.«01_k».proof.Proof.Gen.KernelIdeal.Launch
public import Idealize.ShloMosaic.Lib.Pipeline.FrameBody
public import Idealize.ShloMosaic.Lib.Pipeline.RegionsLoop

@[expose] public section

set_option maxRecDepth 16384

noncomputable section

/-! The first kernel at one grid point, and the data of its run over the grid. -/

namespace Cert.KernelIdeal.Scan

open Cert.KernelIdeal Cert.KernelIdeal.Gen Cert.KernelIdeal.Scan
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
open Idealize.ShloMosaic.Rounds
open Idealize.ShloMosaic.Pipeline (Dat Cfg Window BodyObligation cellOf)
open Cert.Whole

local notation "𝕄" => MT nD τ sig Unit (Elt F) ℕ (UU nD τ) ℕ

/-- The body: from the four inputs' blocks it leaves the normalised rows' product in the result's. -/
theorem ln_run (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x2048 .f32) (harg5 : arg5.IsWhole) (arg6 : Memref sig .tc .vmem S512x2048 .f32) (harg6 : arg6.IsWhole)
    (X : Vec F S512x1024 .f32) (G B : Vec F S1x1024 .f32) (Wm : Vec F S1024x2048 .f32) :
    (iprop(owns (c : Thread nD τ) arg2 fullShare X ∗ owns (c : Thread nD τ) arg3 fullShare G ∗ owns (c : Thread nD τ) arg4 fullShare B
      ∗ owns (c : Thread nD τ) arg5 fullShare Wm ∗ (∃ d, owns (c : Thread nD τ) arg6 fullShare d)) : sProp 𝕄)
    ⊢ wp frame (wpE (defs₀ (F := F)) 𝒱₀ (c : Thread nD τ) none) Set.univ (cc0__ln_proj_kernel (F := F) i arg2 harg2 arg3 harg3 arg4 harg4 arg5 harg5 arg6 harg6) fun _ =>
      iprop(owns (c : Thread nD τ) arg2 fullShare X ∗ owns (c : Thread nD τ) arg3 fullShare G ∗ owns (c : Thread nD τ) arg4 fullShare B
        ∗ owns (c : Thread nD τ) arg5 fullShare Wm ∗ owns (c : Thread nD τ) arg6 fullShare (k0_pay1 X G B Wm)) := by
  rw [cc0__ln_proj_kernel_eq_skeleton]
  unfold cc0__ln_proj_kernel_skel owns
  iintro ⟨⟨%f2, %h2, H2⟩, ⟨%f3, %h3, H3⟩, ⟨%f4, %h4, H4⟩, ⟨%f5, %h5, H5⟩, ⟨%d6, %f6, %h6, H6⟩⟩
  have e2 := load_whole arg2.view f2 z2 inb_S512x1024_S512x1024_0_0
  have e3 := load_whole arg3.view f3 z2 inb_S1x1024_S1x1024_0_0
  have e4 := load_whole arg4.view f4 z2 inb_S1x1024_S1x1024_0_0
  have e5 := load_whole arg5.view f5 z2 inb_S1024x2048_S1024x2048_0_0
  rw [h2] at e2; rw [h3] at e3; rw [h4] at e4; rw [h5] at e5
  sl_exec
  sl_step
  isplitl [H2]; · iexists _; isplitr; swap; (· iexact H2); ipureintro; exact h2
  isplitl [H3]; · iexists _; isplitr; swap; (· iexact H3); ipureintro; exact h3
  isplitl [H4]; · iexists _; isplitr; swap; (· iexact H4); ipureintro; exact h4
  isplitl [H5]; · iexists _; isplitr; swap; (· iexact H5); ipureintro; exact h5
  iexists _; isplitr; swap; (· iexact H6); ipureintro; exact store_whole _ _ z2 _ _

variable (V : (c : Dev nD) → (b : Ref sig .tc) → Buf (Elt F) ((c : Thread nD τ).loc b))

/-- The block of window `w`'s array at a point. -/
def blk0 (c : Dev nD) (w : Fin 5) (t : Fin cfg0.N) : ((cfg0.win w).xblock (cfg0.grid.coords t)).Idx → Elt F (cfg0.win w).elt :=
  ((cfg0.win w).blk t).view.read (Elt F) (V c (Pipeline.arrRef spec0 w))

/-- What the body leaves in each window's buffer: the inputs' as they were, the result's at the product. -/
def dat0 (c : Dev nD) : Dat τ (Elt F) Unit ℕ (UU nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => k0_pay1 (F := F) (blk0 V c 0 t) (blk0 V c 1 t) (blk0 V c 2 t) (blk0 V c 3 t)
  Φ _ := Pipeline.scopedRest (Ix := Unit) (Name := ℕ) (U := UU nD τ) (Lvl := ℕ) (Val := Elt F) spec0 c
  q _ := fullShare
  owed _ := 0

theorem before0_0 (c : Dev nD) (t : Fin cfg0.N) (d) : (dat0 V c).before 0 t d = blk0 V c 0 t :=
  (dat0 V c).before_in_eq_fetched 0 rfl (fun _ => rfl) (fun _ _ _ => rfl) (fun t => by dsimp only [dat0]; rfl) t d
theorem before0_1 (c : Dev nD) (t : Fin cfg0.N) (d) : (dat0 V c).before 1 t d = blk0 V c 1 t :=
  (dat0 V c).before_in_eq_fetched 1 rfl (fun _ => rfl) (fun _ _ _ => rfl) (fun t => by dsimp only [dat0]; rfl) t d
theorem before0_2 (c : Dev nD) (t : Fin cfg0.N) (d) : (dat0 V c).before 2 t d = blk0 V c 2 t :=
  (dat0 V c).before_in_eq_fetched 2 rfl (fun _ => rfl) (fun _ _ _ => rfl) (fun t => by dsimp only [dat0]; rfl) t d
theorem before0_3 (c : Dev nD) (t : Fin cfg0.N) (d) : (dat0 V c).before 3 t d = blk0 V c 3 t :=
  (dat0 V c).before_in_eq_fetched 3 rfl (fun _ => rfl) (fun _ _ _ => rfl) (fun t => by dsimp only [dat0]; rfl) t d

theorem body_obligation0 (c : Dev nD) : BodyObligation (dat0 V c) (defs₀ (F := F)) 𝒱₀ () Set.univ := fun t => by
  rw [bigSep_W0, bigSep_W0]
  simp only [before0_0, before0_1, before0_2, before0_3]
  rw [show (dat0 V c).Φ t.castSucc = (dat0 V c).Φ t.succ from rfl, show (dat0 V c).owesAt () t.succ = (dat0 V c).owesAt () t.castSucc from rfl,
    show defs₀ (F := F) .tc cfg0.body (cfg0.bodyArgs t (cfg0.slots t)) = bodyAt0 t from rfl]
  iintro ⟨HΦ, Howes, ⟨%d0, H0⟩, ⟨%d1, H1⟩, ⟨%d2, H2⟩, ⟨%d3, H3⟩, ⟨%d4, H4⟩⟩
  iapply (wp_wand_r Idealize.ShloMosaic.frame (wpE (defs₀ (F := F)) 𝒱₀ (c : Thread nD τ) none) Set.univ)
  isplitl [H0 H1 H2 H3 H4]
  · iapply (ln_run c (grid0.coords t) _ _ _ _ _ _ _ _ _ _ (blk0 V c 0 t) (blk0 V c 1 t) (blk0 V c 2 t) (blk0 V c 3 t))
    isplitl [H0]; · iexact H0
    isplitl [H1]; · iexact H1
    isplitl [H2]; · iexact H2
    isplitl [H3]; · iexact H3
    iexists _; iexact H4
  iintro %r ⟨H0, H1, H2, H3, H4⟩
  isplitl [HΦ]; · iexact HΦ
  isplitl [Howes]; · iexact Howes
  isplitl [H0]; · iexact H0
  isplitl [H1]; · iexact H1
  isplitl [H2]; · iexact H2
  isplitl [H3]; · iexact H3
  iexact H4

end Cert.KernelIdeal.Scan

end
-- ==== Proof.KIRegion1.lean ====
module

public import proofs.«01_k».proof.Proof.KIBodyRun
public import proofs.«01_k».proof.Proof.Gen.KernelIdeal.Points
public import proofs.«01_k».proof.Proof.Gen.KernelIdeal.Launch
public import Idealize.ShloMosaic.Lib.Pipeline.FrameBody
public import Idealize.ShloMosaic.Lib.Pipeline.RegionsLoop

@[expose] public section

set_option maxRecDepth 16384

noncomputable section

/-! The second kernel over the grid: what it carries from point to point, and the data of its run. -/

namespace Cert.KernelIdeal.Scan

open Cert.KernelIdeal Cert.KernelIdeal.Gen Cert.KernelIdeal.Scan
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
open Idealize.ShloMosaic.Rounds
open Idealize.ShloMosaic.Pipeline (Dat Cfg Window BodyObligation cellOf)

local notation "𝕄" => MT nD τ sig Unit (Elt F) ℕ (UU nD τ) ℕ

variable (V : (c : Dev nD) → (b : Ref sig .tc) → Buf (Elt F) ((c : Thread nD τ).loc b))

/-- The block of window `w`'s array at a point. -/
def blk1 (c : Dev nD) (w : Fin 13) (t : Fin cfg1.N) : ((cfg1.win w).xblock (cfg1.grid.coords t)).Idx → Elt F (cfg1.win w).elt :=
  ((cfg1.win w).blk t).view.read (Elt F) (V c (Pipeline.arrRef spec1 w))

/-- The weights at a point. -/
def wts (c : Dev nD) (t : Fin cfg1.N) : Wts F where
  cw := blk1 V c 3 t
  cb := blk1 V c 4 t
  wd := blk1 V c 5 t
  bd := blk1 V c 6 t
  wb := blk1 V c 7 t
  wc := blk1 V c 8 t
  la := blk1 V c 9 t
  dp := blk1 V c 10 t
  wo := blk1 V c 11 t

/-- Whether a point is the first of its sequence. -/
def first (t : Fin cfg1.N) : Bool := decide (t.val % 4 = 0)

theorem first_iff : ∀ t : Fin cfg1.N,
    (Scalar.cmpi .ne (Scalar.extui (Scalar.cmpi .eq (BitVec.ofNat 32 (grid1.coords t 1).val) 0#32) : BitVec 32) 0#32 = 1#1 ↔ first t = true) :=
  (by decide +kernel : ∀ t : Fin grid1.N,
    (Scalar.cmpi .ne (Scalar.extui (Scalar.cmpi .eq (BitVec.ofNat 32 (grid1.coords t 1).val) 0#32) : BitVec 32) 0#32 = 1#1
      ↔ decide (t.val % 4 = 0) = true))

/-- The state and the last rows carried into point `n`: what the points before it left. -/
def carry (c : Dev nD) : (n : ℕ) → n ≤ cfg1.N → Vec F S16x2048 .f32 × Vec F S16x2048 .f32
  | 0, _ => (k1_pay38, k1_pay39)
  | n + 1, h =>
    (hB (wts V c ⟨n, h⟩) (blk1 V c 0 ⟨n, h⟩) (startT (first ⟨n, h⟩) (carry c n (Nat.le_of_lt h)).2) (startH (first ⟨n, h⟩) (carry c n (Nat.le_of_lt h)).1),
      tlB (F := F) (blk1 V c 0 ⟨n, h⟩))

/-- The state and the last rows that point `t` starts from. -/
def inH (c : Dev nD) (t : Fin cfg1.N) : Vec F S16x2048 .f32 := startH (first t) (carry V c t.val (Nat.le_of_lt t.isLt)).1
def inT (c : Dev nD) (t : Fin cfg1.N) : Vec F S16x2048 .f32 := startT (first t) (carry V c t.val (Nat.le_of_lt t.isLt)).2

/-- The buffers that the body does not touch. -/
def idle1 (c : Dev nD) : sProp 𝕄 := iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f))

/-- Between points: the carried state and last rows (anything before the first point), the other buffers at anything. -/
def inv1 (c : Dev nD) (n : ℕ) (h : n ≤ cfg1.N) : sProp 𝕄 :=
  iprop(∃ H T, ⌜n ≠ 0 → (H, T) = carry V c n h⌝ ∗ owns (c : Thread nD τ) (Memref.whole cc1_scratch0) fullShare H ∗ owns (c : Thread nD τ) (Memref.whole cc1_scratch1) fullShare T
      ∗ (∃ d, owns (c : Thread nD τ) (Memref.whole cc1_scratch2) fullShare d)
      ∗ (∃ d, owns (c : Thread nD τ) (Memref.whole cc1_scratch3) fullShare d)
      ∗ (∃ d, owns (c : Thread nD τ) (Memref.whole cc1_scratch4) fullShare d)
      ∗ (∃ d, owns (c : Thread nD τ) (Memref.whole cc1_scratch5) fullShare d)
      ∗ (∃ d, owns (c : Thread nD τ) (Memref.whole cc1_scratch6) fullShare d)
      ∗ (∃ d, owns (c : Thread nD τ) (Memref.whole cc1_scratch7) fullShare d)
      ∗ idle1 c)

/-- What the body leaves in each window's buffer: the inputs' as they were, the result's at its block. -/
def dat1 (c : Dev nD) : Dat τ (Elt F) Unit ℕ (UU nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => blk1 V c 8 t
    | ⟨9, _⟩ => blk1 V c 9 t
    | ⟨10, _⟩ => blk1 V c 10 t
    | ⟨11, _⟩ => blk1 V c 11 t
    | ⟨12, _⟩ => outB (F := F) (wts V c t) (blk1 V c 0 t) (inT V c t) (inH V c t) (blk1 V c 1 t) (blk1 V c 2 t)
  Φ n := inv1 V c n.val (Nat.le_of_lt_succ n.isLt)
  q w := Pipeline.shareOf spec1 w
  owed _ := 0

theorem before1_0 (c : Dev nD) (t : Fin cfg1.N) (d) : (dat1 V c).before 0 t d = blk1 V c 0 t :=
  (dat1 V c).before_in_eq_fetched 0 rfl (fun _ => rfl) (fun _ _ _ => rfl) (fun t => by dsimp only [dat1]; rfl) t d
theorem before1_1 (c : Dev nD) (t : Fin cfg1.N) (d) : (dat1 V c).before 1 t d = blk1 V c 1 t :=
  (dat1 V c).before_in_eq_fetched 1 rfl (fun _ => rfl) (fun _ _ _ => rfl) (fun t => by dsimp only [dat1]; rfl) t d
theorem before1_2 (c : Dev nD) (t : Fin cfg1.N) (d) : (dat1 V c).before 2 t d = blk1 V c 2 t :=
  (dat1 V c).before_in_eq_fetched 2 rfl (fun _ => rfl) (fun _ _ _ => rfl) (fun t => by dsimp only [dat1]; rfl) t d
theorem before1_3 (c : Dev nD) (t : Fin cfg1.N) (d) : (dat1 V c).before 3 t d = blk1 V c 3 t :=
  (dat1 V c).before_in_eq_fetched 3 rfl (fun _ => rfl) (fun _ _ _ => rfl) (fun t => by dsimp only [dat1]; rfl) t d
theorem before1_4 (c : Dev nD) (t : Fin cfg1.N) (d) : (dat1 V c).before 4 t d = blk1 V c 4 t :=
  (dat1 V c).before_in_eq_fetched 4 rfl (fun _ => rfl) (fun _ _ _ => rfl) (fun t => by dsimp only [dat1]; rfl) t d
theorem before1_5 (c : Dev nD) (t : Fin cfg1.N) (d) : (dat1 V c).before 5 t d = blk1 V c 5 t :=
  (dat1 V c).before_in_eq_fetched 5 rfl (fun _ => rfl) (fun _ _ _ => rfl) (fun t => by dsimp only [dat1]; rfl) t d
theorem before1_6 (c : Dev nD) (t : Fin cfg1.N) (d) : (dat1 V c).before 6 t d = blk1 V c 6 t :=
  (dat1 V c).before_in_eq_fetched 6 rfl (fun _ => rfl) (fun _ _ _ => rfl) (fun t => by dsimp only [dat1]; rfl) t d
theorem before1_7 (c : Dev nD) (t : Fin cfg1.N) (d) : (dat1 V c).before 7 t d = blk1 V c 7 t :=
  (dat1 V c).before_in_eq_fetched 7 rfl (fun _ => rfl) (fun _ _ _ => rfl) (fun t => by dsimp only [dat1]; rfl) t d
theorem before1_8 (c : Dev nD) (t : Fin cfg1.N) (d) : (dat1 V c).before 8 t d = blk1 V c 8 t :=
  (dat1 V c).before_in_eq_fetched 8 rfl (fun _ => rfl) (fun _ _ _ => rfl) (fun t => by dsimp only [dat1]; rfl) t d
theorem before1_9 (c : Dev nD) (t : Fin cfg1.N) (d) : (dat1 V c).before 9 t d = blk1 V c 9 t :=
  (dat1 V c).before_in_eq_fetched 9 rfl (fun _ => rfl) (fun _ _ _ => rfl) (fun t => by dsimp only [dat1]; rfl) t d
theorem before1_10 (c : Dev nD) (t : Fin cfg1.N) (d) : (dat1 V c).before 10 t d = blk1 V c 10 t :=
  (dat1 V c).before_in_eq_fetched 10 rfl (fun _ => rfl) (fun _ _ _ => rfl) (fun t => by dsimp only [dat1]; rfl) t d
theorem before1_11 (c : Dev nD) (t : Fin cfg1.N) (d) : (dat1 V c).before 11 t d = blk1 V c 11 t :=
  (dat1 V c).before_in_eq_fetched 11 rfl (fun _ => rfl) (fun _ _ _ => rfl) (fun t => by dsimp only [dat1]; rfl) t d

/-- Where nothing is carried, what the buffers hold does not matter. -/
theorem start_carry (c : Dev nD) (t : Fin cfg1.N) (H T : Vec F S16x2048 .f32)
    (h : t.val ≠ 0 → (H, T) = carry V c t.val (Nat.le_of_lt t.isLt)) :
    startH (first t) H = inH V c t ∧ startT (first t) T = inT V c t := by
  unfold inH inT
  by_cases h0 : t.val = 0
  · have hf : first t = true := by unfold first; rw [h0]; rfl
    rw [hf]; exact ⟨rfl, rfl⟩
  · rw [← h h0]; exact ⟨rfl, rfl⟩

theorem body_obligation1 (c : Dev nD) : BodyObligation (dat1 V c) (defs₀ (F := F)) 𝒱₀ () Set.univ := fun t => by
  rw [bigSep_W1, bigSep_W1]
  simp only [before1_0, before1_1, before1_2, before1_3, before1_4, before1_5, before1_6, before1_7, before1_8, before1_9, before1_10, before1_11]
  rw [show (dat1 V c).Φ t.castSucc = inv1 V c t.val (Nat.le_of_lt t.isLt) from by dsimp only [dat1]; exact Pipeline.Dat.Φ_castSucc (inv1 V c) t,
    show (dat1 V c).Φ t.succ = inv1 V c (t.val + 1) t.isLt from rfl,
    show (dat1 V c).owesAt () t.succ = (dat1 V c).owesAt () t.castSucc from rfl,
    show defs₀ (F := F) .tc cfg1.body (cfg1.bodyArgs t (cfg1.slots t)) = bodyAt1 t from rfl]
  unfold inv1
  iintro ⟨⟨%H, %T, %hHT, S0, S1, S2, S3, S4, S5, S6, S7, Hi⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  obtain ⟨eH, eT⟩ := start_carry V c t H T hHT
  have run := body_run c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (st1_8 t) (hstage1_8 ((cfg1.slots t 8).cast nbuf1_8)) (st1_9 t) (hstage1_9 ((cfg1.slots t 9).cast nbuf1_9)) (st1_10 t) (hstage1_10 ((cfg1.slots t 10).cast nbuf1_10)) (st1_11 t) (hstage1_11 ((cfg1.slots t 11).cast nbuf1_11)) (st1_12 t) (hstage1_12 ((cfg1.slots t 12).cast nbuf1_12)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _)
    (wts V c t) (blk1 V c 0 t) (blk1 V c 1 t) (blk1 V c 2 t) H T (first t) (first_iff t)
  rw [eH, eT] at run
  iapply (wp_wand_r Idealize.ShloMosaic.frame (wpE (defs₀ (F := F)) 𝒱₀ (c : Thread nD τ) none) Set.univ)
  isplitl [H0 H1 H2 H3 H4 H5 H6 H7 H8 H9 H10 H11 H12 S0 S1 S2 S3 S4 S5 S6 S7]
  · iapply run
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  iintro %r ⟨H0, H1, H2, H3, H4, H5, H6, H7, H8, H9, H10, H11, H12, S0, S1, S2, S3, S4, S5, S6, S7⟩
  isplitl [S0 S1 S2 S3 S4 S5 S6 S7 Hi]
  · iexists _; iexists _
    isplitr; swap
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact Hi
    · ipureintro; exact fun _ => rfl
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

end Cert.KernelIdeal.Scan

end
-- ==== Proof.KIRegions.lean ====
module

public import proofs.«01_k».proof.Proof.KIRegion0
public import proofs.«01_k».proof.Proof.KIRegion1
public import proofs.«01_k».proof.Proof.Gen.KernelIdeal.Regions

@[expose] public section

set_option maxRecDepth 16384

noncomputable section

/-! The two kernel launches as segments of the whole program. -/

namespace Cert.KernelIdeal.Scan

open Cert.KernelIdeal Cert.KernelIdeal.Gen Cert.KernelIdeal.Scan
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
open Idealize.ShloMosaic.Rounds
open Idealize.ShloMosaic.Pipeline (Dat Cfg Window BodyObligation cellOf)

local notation "𝕄" => MT nD τ sig Unit (Elt F) ℕ (UU nD τ) ℕ

/-- No core owes another anything: no level is assigned. -/
abbrev L₀ : GSem nD τ sig → Finset Unit := fun _ => ∅
abbrev lv₀ : GSem nD τ sig → Unit → ℕ := fun _ _ => 0

variable (Va Vb Vp : (c : Dev nD) → (b : Ref sig .tc) → Buf (Elt F) ((c : Thread nD τ).loc b))

/-- The two runs' data, the first entered at the contents `Va`, the second at `Vb`. -/
def pdats : (p : Fin 2) → (c : Dev nD) → Dat τ (Elt F) Unit ℕ (UU nD τ) ℕ (cfgs p) c
  | ⟨0, _⟩ => fun c => dat0 Va c
  | ⟨1, _⟩ => fun c => dat1 Vb c

set_option backward.isDefEq.respectTransparency.types false in
/-- The first kernel's run: from the contents `Va` to the contents `Vp`, which differ in its result alone. -/
def reg0 (hout : ∀ c, Vp c main_v3 = (dat0 Va c).arrAt 4 cfg0.N) (hne : ∀ c (b : Ref sig .tc), b ≠ main_v3 → Vp c b = Va c b) :
    Pipeline.RegionSeg (pcfgs (F := F)) adm (pdats Va Vb) () defs₀ 𝒱₀ L₀ lv₀ 0 where
  win := launch0.win.to₀
  block_pos := launch0.block_pos
  stage_whole := launch0.stage_whole
  K := PEmpty
  osem k := k.elim
  ho := Pipeline.OwnSemFacts.none _
  hbody c := (body_obligation0 Va c).loose
  hwaits := Pipeline.hwaits_of_owed_zero _ _ _ _ L₀ lv₀ 0 fun _ _ => rfl
  pre c := iprop(unscopedBufs c (Va c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UU nD τ) (Lvl := ℕ) spec0 c (Va c)
  hentry c := by
    rw [Pipeline.ownSems0_none]
    have hsplit := Pipeline.arrays_of_unscopedBufs (p := 0) (pcfgs (F := F)) adm (pdats Va Vb) launch0.win launch0.arr_whole c
      ((pdats Va Vb 0 c).share_full fun _ => rfl) (Va c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats Va Vb 0 c).Φ 0 = Pipeline.scopedRest (Ix := Unit) (Name := ℕ) (U := UU nD τ) (Lvl := ℕ) (Val := Elt F) spec0 c from rfl]
    iintro ⟨-, -, Hr⟩; iexact Hr
  hout c := by
    rw [Pipeline.ownSems0_none, show (pdats Va Vb 0 c).Φ (Fin.last _)
      = Pipeline.scopedRest (Ix := Unit) (Name := ℕ) (U := UU nD τ) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UU nD τ) (Lvl := ℕ) launch0.win launch0.arr_whole c
      (pdats Va Vb) ((pdats Va Vb 0 c).share_full fun _ => rfl) (Va c) (Vp c) ((pdats Va Vb 0 c).arrAt · cfg0.N)
      (fun w => by
        match w with
        | ⟨0, _⟩ => exact ((pdats Va Vb 0 c).arrAt_in 0 rfl _).trans (hne c main_v0 (by decide)).symm
        | ⟨1, _⟩ => exact ((pdats Va Vb 0 c).arrAt_in 1 rfl _).trans (hne c main_v1 (by decide)).symm
        | ⟨2, _⟩ => exact ((pdats Va Vb 0 c).arrAt_in 2 rfl _).trans (hne c main_v2 (by decide)).symm
        | ⟨3, _⟩ => exact ((pdats Va Vb 0 c).arrAt_in 3 rfl _).trans (hne c main_arg3 (by decide)).symm
        | ⟨4, _⟩ => exact (hout c).symm)
      (fun b hb => hne c b fun h => hb (h ▸ Finset.mem_image.mpr ⟨4, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option maxHeartbeats 4000000 in
set_option backward.isDefEq.respectTransparency.types false in
/-- The second kernel's run: from the contents `Vb` to the contents `Vp`, which differ in its result alone. -/
def reg1 (hout : ∀ c, Vp c main_v12 = (dat1 Vb c).arrAt 12 cfg1.N) (hne : ∀ c (b : Ref sig .tc), b ≠ main_v12 → Vp c b = Vb c b) :
    Pipeline.RegionSeg (pcfgs (F := F)) adm (pdats Va Vb) () defs₀ 𝒱₀ L₀ lv₀ 1 where
  win := winFacts₀1
  block_pos := launch₀1.block_pos
  stage_whole := launch₀1.stage_whole
  K := PEmpty
  osem k := k.elim
  ho := Pipeline.OwnSemFacts.none _
  hbody c := (body_obligation1 Vb c).loose
  hwaits := Pipeline.hwaits_of_owed_zero _ _ _ _ L₀ lv₀ 1 fun _ _ => rfl
  pre c := iprop(unscopedBufs c (Vb c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UU nD τ) (Lvl := ℕ) spec1 c (Vb c)
  hentry c := by
    rw [Pipeline.ownSems0_none]
    have hsplit := Pipeline.arrays_of_unscopedBufs_shared (p := 1) (pcfgs (F := F)) adm (pdats Va Vb) winFacts₀1 sharedIn1 arr_whole1 c
      (fun _ _ => rfl) (Vb c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats Va Vb 1 c).Φ 0 = inv1 Vb c 0 (Nat.zero_le _) from rfl]
    unfold inv1 idle1
    simp only [owns_whole]
    rw [show (Pipeline.scopedRest (Ix := Unit) (Name := ℕ) (U := UU nD τ) (Lvl := ℕ) (Val := Elt F) (Pipeline.pin (pcfgs (F := F)) adm 1).spec c : sProp 𝕄)
      = Pipeline.scopedRest (Ix := Unit) (Name := ℕ) (U := UU nD τ) (Lvl := ℕ) (Val := Elt F) spec1 c from rfl, scopedRest1_eq]
    iintro ⟨-, -, B0, B1, B2, B3, B4, B5, B6, B7, ⟨%H, S0⟩, ⟨%T, S1⟩, S2, S3, S4, S5, S6, S7⟩
    iexists H; iexists T
    isplitr; · ipureintro; exact fun h => absurd rfl h
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [B0]; · iexact B0
    isplitl [B1]; · iexact B1
    isplitl [B2]; · iexact B2
    isplitl [B3]; · iexact B3
    isplitl [B4]; · iexact B4
    isplitl [B5]; · iexact B5
    isplitl [B6]; · iexact B6
    iexact B7
  hout c := by
    rw [Pipeline.ownSems0_none, show (pdats Va Vb 1 c).Φ (Fin.last _) = inv1 Vb c cfg1.N (Nat.le_refl _) from rfl]
    unfold inv1 idle1
    simp only [owns_whole]
    rw [show (Pipeline.scopedRest (Ix := Unit) (Name := ℕ) (U := UU nD τ) (Lvl := ℕ) (Val := Elt F) (Pipeline.pin (pcfgs (F := F)) adm 1).spec c : sProp 𝕄)
      = Pipeline.scopedRest (Ix := Unit) (Name := ℕ) (U := UU nD τ) (Lvl := ℕ) (Val := Elt F) spec1 c from rfl, scopedRest1_eq]
    iintro ⟨%H, %T, -, S0, S1, S2, S3, S4, S5, S6, S7, B0, B1, B2, B3, B4, B5, B6, B7⟩
    isplitr; · iempintro
    isplitr; · iempintro
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [S0]; · iexists _; iexact S0
    isplitl [S1]; · iexists _; iexact S1
    isplitl [S2]; · iexact S2
    isplitl [S3]; · iexact S3
    isplitl [S4]; · iexact S4
    isplitl [S5]; · iexact S5
    isplitl [S6]; · iexact S6
    iexact S7
  hexit c := by
    have hjoin := Pipeline.unscopedBufs_of_arrays_shared (p := 1) (pcfgs (F := F)) adm (Ix := Unit) (Name := ℕ) (U := UU nD τ) (Lvl := ℕ) winFacts₀1 sharedIn1 arr_whole1 c
      (pdats Va Vb) (fun _ _ => rfl) (Vb c) (Vp c) ((pdats Va Vb 1 c).arrAt · cfg1.N)
      (fun w => by
        match w with
        | ⟨0, _⟩ => exact ((pdats Va Vb 1 c).arrAt_in 0 rfl _).trans (hne c main_v3 (by decide)).symm
        | ⟨1, _⟩ => exact ((pdats Va Vb 1 c).arrAt_in 1 rfl _).trans (hne c main_v3 (by decide)).symm
        | ⟨2, _⟩ => exact ((pdats Va Vb 1 c).arrAt_in 2 rfl _).trans (hne c main_v0 (by decide)).symm
        | ⟨3, _⟩ => exact ((pdats Va Vb 1 c).arrAt_in 3 rfl _).trans (hne c main_v5 (by decide)).symm
        | ⟨4, _⟩ => exact ((pdats Va Vb 1 c).arrAt_in 4 rfl _).trans (hne c main_v9 (by decide)).symm
        | ⟨5, _⟩ => exact ((pdats Va Vb 1 c).arrAt_in 5 rfl _).trans (hne c main_arg8 (by decide)).symm
        | ⟨6, _⟩ => exact ((pdats Va Vb 1 c).arrAt_in 6 rfl _).trans (hne c main_v10 (by decide)).symm
        | ⟨7, _⟩ => exact ((pdats Va Vb 1 c).arrAt_in 7 rfl _).trans (hne c main_arg6 (by decide)).symm
        | ⟨8, _⟩ => exact ((pdats Va Vb 1 c).arrAt_in 8 rfl _).trans (hne c main_arg7 (by decide)).symm
        | ⟨9, _⟩ => exact ((pdats Va Vb 1 c).arrAt_in 9 rfl _).trans (hne c main_v8 (by decide)).symm
        | ⟨10, _⟩ => exact ((pdats Va Vb 1 c).arrAt_in 10 rfl _).trans (hne c main_v11 (by decide)).symm
        | ⟨11, _⟩ => exact ((pdats Va Vb 1 c).arrAt_in 11 rfl _).trans (hne c main_arg12 (by decide)).symm
        | ⟨12, _⟩ => exact (hout c).symm)
      (fun b hb => hne c b fun h => hb (h ▸ Finset.mem_image.mpr ⟨12, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.Scan

end
-- ==== Proof.KIRun.lean ====
module

public import proofs.«01_k».proof.Proof.KIRegions

@[expose] public section

set_option maxRecDepth 16384

noncomputable section

/-! The whole program's run. -/

namespace Cert.KernelIdeal.Scan

open Cert.KernelIdeal Cert.KernelIdeal.Gen Cert.KernelIdeal.Scan
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
open Idealize.ShloMosaic.Rounds
open Idealize.ShloMosaic.Pipeline (Dat Seg HostSeg RegionSeg)

local notation "𝕄" => MT nD τ sig Unit (Elt F) ℕ (UU nD τ) ℕ

variable (m : (ℓ : Loc nD τ sig) → Buf (Elt F) ℓ)

/-- The buffers' contents as the first kernel is entered. -/
abbrev Va (c : Dev nD) (b : Ref sig .tc) : Buf (Elt F) ((c : Thread nD τ).loc b) := V1 m c b
/-- The first kernel's result. -/
def res0 (c : Dev nD) : Buf (Elt F) ((c : Thread nD τ).loc main_v3) := (dat0 (Va m) c).arrAt 4 cfg0.N
/-- What the first kernel leaves. -/
def outs0 : Outs (F := F) := fun _ r c => (Function.update (V1 m c) main_v3 (res0 m c) : Valuation τ sig (Elt F)) r
/-- The buffers' contents as the second kernel is entered. -/
abbrev Vb (c : Dev nD) (b : Ref sig .tc) : Buf (Elt F) ((c : Thread nD τ).loc b) := V3 m (outs0 m) c b
/-- The second kernel's result. -/
def res1 (c : Dev nD) : Buf (Elt F) ((c : Thread nD τ).loc main_v12) := (dat1 (Vb m) c).arrAt 12 cfg1.N
/-- What both leave. -/
def outs : Outs (F := F)
  | 2 => outs0 m 2
  | _ => fun r c => (Function.update (V3 m (outs0 m) c) main_v12 (res1 m c) : Valuation τ sig (Elt F)) r

theorem outs_2 (c : Dev nD) : outs m 2 main_v3 c = res0 m c := by
  show (Function.update (V1 m c) (Proc.devRef .tc main_v3) (res0 m c) : Valuation τ sig (Elt F)) (Proc.devRef .tc main_v3) = res0 m c
  rw [Function.update_self]
theorem outs_4 (c : Dev nD) : outs m 4 main_v12 c = res1 m c := by
  show (Function.update (V3 m (outs0 m) c) (Proc.devRef .tc main_v12) (res1 m c) : Valuation τ sig (Elt F)) (Proc.devRef .tc main_v12) = res1 m c
  rw [Function.update_self]
theorem V3_outs (c : Dev nD) : V3 m (outs m) c = V3 m (outs0 m) c := rfl

/-- What rides along beside the buffers: nothing owed. -/
abbrev EE (_ : Fin 3) (c : Dev nD) : sProp 𝕄 := iprop(∃ W, owes (c : Thread nD τ) (0 : CellTallies nD τ sig Unit) W)

/-- The two runs. -/
def rg0 := reg0 (F := F) (Va m) (Vb m) (fun c b => V2 m (outs m) c b)
  (fun c => by show V2 m (outs m) c main_v3 = _; unfold V2; rw [Function.update_self]; exact outs_2 m c)
  (fun c b hb => V2_of m (outs m) c b (by simpa using hb))
def rg1 := reg1 (F := F) (Va m) (Vb m) (fun c b => V4 m (outs m) c b)
  (fun c => by show V4 m (outs m) c main_v12 = _; unfold V4; rw [Function.update_self]; exact outs_4 m c)
  (fun c b hb => V4_of m (outs m) c b (by simpa using hb))

set_option backward.isDefEq.respectTransparency.types false in
/-- The program's run: it ends, with the result's buffer at the contents followed through it, the arguments as they were, and every
    counter at zero. -/
theorem run (ρ : Dev nD → PrngReg) :
    θ_run defs (onTc (τ := τ) (main (F := F))) ⟨m, fun _ => 0, ρ⟩ (fun r => (∀ c : Dev nD,
      r.2.mem ((c.tc : Thread nD τ).loc main_v13) = V5 m (outs m) c main_v13
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) := by
  refine Pipeline.θ_run_regions_kit_dev_sems (pcfgs (F := F)) adm (pdats (Va m) (Vb m)) () cellOf_inj
    (emb₁ : Emb (UR sig nD τ) 𝕄) defs₀ 𝒱₀ L₀ lv₀ m ρ main
    (segs m (outs m) 𝒱₀ L₀ lv₀ EE () (pdats (Va m) (Vb m)) (rg0 m) (rg1 m))
    (fun c Q => by
      rewrite [main_chain c, Seg.run_eq_chain,
        show (segs m (outs m) 𝒱₀ L₀ lv₀ EE () (pdats (Va m) (Vb m)) (rg0 m) (rg1 m) c).map Seg.prog = [
          StableHlo.seq hostOps0, Prog.lift (.customCall (Pipeline.entry 0) ()), StableHlo.seq hostOps1,
          Prog.lift (.customCall (Pipeline.entry 1) ()), StableHlo.seq hostOps2 ] from rfl]
      dsimp (config := { failIfUnchanged := false }) only
      exact .rfl)
    (fun c => by simp only [segs, Seg.pipes_host, Seg.pipes_region, Seg.pipes_nil]; decide) (fun _ => 0) (fun _ _ => rfl)
    (fun _ => iprop(emp)) (initOf (Pipeline.cells cfgs cellOf_inj) (Pipeline.launchToks cfgs cellOf_inj))
    (by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ EE 0 c))
    (Tₙ := fun c => StableHlo.held (c : Thread nD τ) (Pipeline.ucRefs τ sig) (V5 m (outs m) c))
    (hch := fun c => ⟨.rfl, Entails.of_eq ?_, Entails.of_eq ?_, Entails.of_eq ?_, Entails.of_eq ?_, .rfl⟩)
    (hinit := ?_) (QY := fun c s => s.mem ((c.tc : Thread nD τ).loc main_v13) = V5 m (outs m) c main_v13 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12))
    (hfin := fun c s' => ?_) (hQ := fun _ h hz => ⟨h, funext fun g => hz g (.inr (regions_no_unscoped g.2))⟩)
  · exact congrArg (fun P => iprop(P ∗ EE 0 c)) (Pipeline.unscopedBufs_held c (V1 m c)).symm
  · exact congrArg (fun P => iprop(P ∗ EE 0 c)) (Pipeline.unscopedBufs_held c (V2 m (outs m) c))
  · exact congrArg (fun P => iprop(P ∗ EE 0 c)) (Pipeline.unscopedBufs_held c (V3 m (outs m) c)).symm
  · exact congrArg (fun P => iprop(P ∗ EE 0 c)) (Pipeline.unscopedBufs_held c (V4 m (outs m) c))
  · refine Pipeline.initEach L₀ lv₀ fun c => ?_
    rw [show unscopedBufs c (fun b => m ((c : Thread nD τ).loc b)) = StableHlo.held (c : Thread nD τ) (Pipeline.ucRefs τ sig) (V0 m c) from
      Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      exact ⟨(h (Proc.devRef .tc main_v13) (Finset.mem_filter.mpr ⟨StableHlo.devRef_mem_tcRefs main_v13, by decide⟩)),
        (h (Proc.devRef .tc main_arg0) (Finset.mem_filter.mpr ⟨StableHlo.devRef_mem_tcRefs main_arg0, by decide⟩)).trans (V5_main_arg0 m (outs m) c),
        (h (Proc.devRef .tc main_arg1) (Finset.mem_filter.mpr ⟨StableHlo.devRef_mem_tcRefs main_arg1, by decide⟩)).trans (V5_main_arg1 m (outs m) c),
        (h (Proc.devRef .tc main_arg2) (Finset.mem_filter.mpr ⟨StableHlo.devRef_mem_tcRefs main_arg2, by decide⟩)).trans (V5_main_arg2 m (outs m) c),
        (h (Proc.devRef .tc main_arg3) (Finset.mem_filter.mpr ⟨StableHlo.devRef_mem_tcRefs main_arg3, by decide⟩)).trans (V5_main_arg3 m (outs m) c),
        (h (Proc.devRef .tc main_arg4) (Finset.mem_filter.mpr ⟨StableHlo.devRef_mem_tcRefs main_arg4, by decide⟩)).trans (V5_main_arg4 m (outs m) c),
        (h (Proc.devRef .tc main_arg5) (Finset.mem_filter.mpr ⟨StableHlo.devRef_mem_tcRefs main_arg5, by decide⟩)).trans (V5_main_arg5 m (outs m) c),
        (h (Proc.devRef .tc main_arg6) (Finset.mem_filter.mpr ⟨StableHlo.devRef_mem_tcRefs main_arg6, by decide⟩)).trans (V5_main_arg6 m (outs m) c),
        (h (Proc.devRef .tc main_arg7) (Finset.mem_filter.mpr ⟨StableHlo.devRef_mem_tcRefs main_arg7, by decide⟩)).trans (V5_main_arg7 m (outs m) c),
        (h (Proc.devRef .tc main_arg8) (Finset.mem_filter.mpr ⟨StableHlo.devRef_mem_tcRefs main_arg8, by decide⟩)).trans (V5_main_arg8 m (outs m) c),
        (h (Proc.devRef .tc main_arg9) (Finset.mem_filter.mpr ⟨StableHlo.devRef_mem_tcRefs main_arg9, by decide⟩)).trans (V5_main_arg9 m (outs m) c),
        (h (Proc.devRef .tc main_arg10) (Finset.mem_filter.mpr ⟨StableHlo.devRef_mem_tcRefs main_arg10, by decide⟩)).trans (V5_main_arg10 m (outs m) c),
        (h (Proc.devRef .tc main_arg11) (Finset.mem_filter.mpr ⟨StableHlo.devRef_mem_tcRefs main_arg11, by decide⟩)).trans (V5_main_arg11 m (outs m) c),
        (h (Proc.devRef .tc main_arg12) (Finset.mem_filter.mpr ⟨StableHlo.devRef_mem_tcRefs main_arg12, by decide⟩)).trans (V5_main_arg12 m (outs m) c)⟩
    · iexact HSI

end Cert.KernelIdeal.Scan

end
-- ==== Proof.RefRun.lean ====
/-
The run of the reference: which buffers its stretches leave alone, and where the run ends.
-/
module

public import proofs.«01_k».proof.Proof.Gen.ReferenceIdeal.Run
public import Idealize.ShloMosaic.Lib.Quiescent

@[expose] public section

set_option maxRecDepth 4096

noncomputable section

open Idealize.ShloMosaic Idealize.ShloMosaic.TcCoe Idealize.SL.Sem

namespace Cert.ReferenceIdeal.Scan

open Cert.ReferenceIdeal Cert.ReferenceIdeal.Gen Cert.ReferenceIdeal.Value Idealize.ShloMosaic.StableHlo

variable {F : FTy → Type} [FloatOps F]

abbrev hostOps0_9_W : List (Ref sig .tc) := [main_v84, main_v85, main_v86, main_v87, main_v88]
theorem hostOps0_9_writes : (hostOps0_9 : List (HloOp τ sig (Elt F))).Forall fun op => op.writes ⊆ (hostOps0_9_W.map (Proc.devRef (τ := τ) .tc)).toFinset :=
  StableHlo.forall_writes_sub_of_map rfl
abbrev hostOps0_10_W : List (Ref sig .tc) := [main_call8_v0, main_call8_v1, main_call8_cst, main_call8_v2, main_call8_v3, main_call8_cst_0, main_call8_v4, main_call8_v5, main_v89]
theorem hostOps0_10_writes : (hostOps0_10 : List (HloOp τ sig (Elt F))).Forall fun op => op.writes ⊆ (hostOps0_10_W.map (Proc.devRef (τ := τ) .tc)).toFinset :=
  StableHlo.forall_writes_sub_of_map rfl
abbrev hostOps0_11_W : List (Ref sig .tc) := [main_v90, main_v91, main_v92]
theorem hostOps0_11_writes : (hostOps0_11 : List (HloOp τ sig (Elt F))).Forall fun op => op.writes ⊆ (hostOps0_11_W.map (Proc.devRef (τ := τ) .tc)).toFinset :=
  StableHlo.forall_writes_sub_of_map rfl

/-- A buffer no stretch before the loop writes is as it was. -/
theorem preI_keep (V : Valuation τ sig (Elt F)) (r : Ref sig .tc) (h : r ∉ hostOps0_W ++ hostOps0_1_W ++ hostOps0_2_W ++ hostOps0_3_W ++ hostOps0_4_W ++ hostOps0_5_W ++ hostOps0_6_W ++ hostOps0_7_W ++ hostOps0_8_W) :
    afterL preI V (Proc.devRef .tc r) = V (Proc.devRef .tc r) := by
  simp only [List.mem_append, not_or, and_assoc] at h
  obtain ⟨h0, h1, h2, h3, h4, h5, h6, h7, h8⟩ := h
  simp only [afterL_cons, afterL_nil]
  rw [after_of_writes_sub hostOps0_8 _ hostOps0_8_writes h8, after_of_writes_sub hostOps0_7 _ hostOps0_7_writes h7, after_of_writes_sub hostOps0_6 _ hostOps0_6_writes h6, after_of_writes_sub hostOps0_5 _ hostOps0_5_writes h5, after_of_writes_sub hostOps0_4 _ hostOps0_4_writes h4, after_of_writes_sub hostOps0_3 _ hostOps0_3_writes h3, after_of_writes_sub hostOps0_2 _ hostOps0_2_writes h2, after_of_writes_sub hostOps0_1 _ hostOps0_1_writes h1, after_of_writes_sub hostOps0 _ hostOps0_writes h0]

/-- A buffer no stretch of the loop writes is as it was after a trip. -/
theorem bodyI_keep (V : Valuation τ sig (Elt F)) (r : Ref sig .tc) (h : r ∉ while0Ops0_W ++ while0Ops0_1_W ++ while0Ops0_2_W ++ while0Ops0_3_W ++ while0Ops0_4_W ++ while0Ops0_5_W) :
    afterL bodyI V (Proc.devRef .tc r) = V (Proc.devRef .tc r) := by
  simp only [List.mem_append, not_or, and_assoc] at h
  obtain ⟨h0, h1, h2, h3, h4, h5⟩ := h
  simp only [afterL_cons, afterL_nil]
  rw [after_of_writes_sub while0Ops0_5 _ while0Ops0_5_writes h5, after_of_writes_sub while0Ops0_4 _ while0Ops0_4_writes h4, after_of_writes_sub while0Ops0_3 _ while0Ops0_3_writes h3, after_of_writes_sub while0Ops0_2 _ while0Ops0_2_writes h2, after_of_writes_sub while0Ops0_1 _ while0Ops0_1_writes h1, after_of_writes_sub while0Ops0 _ while0Ops0_writes h0]

/-- A buffer no stretch after the loop writes is as it was. -/
theorem postI_keep (V : Valuation τ sig (Elt F)) (r : Ref sig .tc) (h : r ∉ hostOps0_9_W ++ hostOps0_10_W ++ hostOps0_11_W) :
    afterL postI V (Proc.devRef .tc r) = V (Proc.devRef .tc r) := by
  simp only [List.mem_append, not_or, and_assoc] at h
  obtain ⟨h0, h1, h2⟩ := h
  simp only [afterL_cons, afterL_nil]
  rw [after_of_writes_sub hostOps0_11 _ hostOps0_11_writes h2, after_of_writes_sub hostOps0_10 _ hostOps0_10_writes h1, after_of_writes_sub hostOps0_9 _ hostOps0_9_writes h0]

variable (m : (ℓ : Loc nD τ sig) → Buf (Elt F) ℓ)

/-- A buffer the loop does not write is, after any number of trips, as it was on entry. -/
theorem atK_keep (c : Dev nD) (r : Ref sig .tc) (hc : r ∉ condOps_W) (h : r ∉ while0Ops0_W ++ while0Ops0_1_W ++ while0Ops0_2_W ++ while0Ops0_3_W ++ while0Ops0_4_W ++ while0Ops0_5_W) :
    ∀ k, atK m k c (Proc.devRef .tc r) = entryContents preI m c (Proc.devRef .tc r)
  | 0 => rfl
  | k + 1 => by
    rw [show atK m (k + 1) c = afterL bodyI (after condOps (atK m k c)) from rfl, bodyI_keep _ r h,
      after_of_writes_sub condOps _ condOps_writes hc, atK_keep c r hc h k]

/-- What the loop's exit holds of a buffer neither the loop nor its test writes. -/
theorem exit_keep (c : Dev nD) (r : Ref sig .tc) (hc : r ∉ condOps_W) (h : r ∉ while0Ops0_W ++ while0Ops0_1_W ++ while0Ops0_2_W ++ while0Ops0_3_W ++ while0Ops0_4_W ++ while0Ops0_5_W) :
    after condOps (atK m 1024 c) (Proc.devRef .tc r) = entryContents preI m c (Proc.devRef .tc r) := by
  rw [after_of_writes_sub condOps _ condOps_writes hc, atK_keep m c r hc h]

/-- A buffer nothing writes ends as it began. -/
theorem final_keep (c : Dev nD) (r : Ref sig .tc) (hp : r ∉ hostOps0_W ++ hostOps0_1_W ++ hostOps0_2_W ++ hostOps0_3_W ++ hostOps0_4_W ++ hostOps0_5_W ++ hostOps0_6_W ++ hostOps0_7_W ++ hostOps0_8_W) (hc : r ∉ condOps_W) (h : r ∉ while0Ops0_W ++ while0Ops0_1_W ++ while0Ops0_2_W ++ while0Ops0_3_W ++ while0Ops0_4_W ++ while0Ops0_5_W) (hq : r ∉ hostOps0_9_W ++ hostOps0_10_W ++ hostOps0_11_W) :
    finalContents condOps preI bodyI postI 1024 m c (Proc.devRef .tc r) = m ((c.tc : Thread nD τ).loc r) := by
  rw [show finalContents condOps preI bodyI postI 1024 m c = afterL postI (after condOps (atK m 1024 c)) from rfl, postI_keep _ r hq,
    exit_keep m c r hc h, show entryContents preI m c = afterL preI (launchContents m c) from rfl, preI_keep _ r hp]

/-- The reference's run: it ends with the result's buffer at the contents followed through it, the arguments as they were, and
    every counter at zero. -/
theorem run (ρ : Dev nD → PrngReg) :
    θ_run (defs (F := F)) (onTc (τ := τ) (main (F := F))) ⟨m, fun _ => 0, ρ⟩ (fun r => (∀ c : Dev nD,
      r.2.mem ((c.tc : Thread nD τ).loc main_v92) = finalContents condOps preI bodyI postI 1024 m c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run _ _ _).mono (fun r h => ⟨fun c => ⟨h c main_v92 (by decide),
    (h c main_arg0 (by decide)).trans (final_keep m c main_arg0 (by decide) (by decide) (by decide) (by decide)),
    (h c main_arg1 (by decide)).trans (final_keep m c main_arg1 (by decide) (by decide) (by decide) (by decide)),
    (h c main_arg2 (by decide)).trans (final_keep m c main_arg2 (by decide) (by decide) (by decide) (by decide)),
    (h c main_arg3 (by decide)).trans (final_keep m c main_arg3 (by decide) (by decide) (by decide) (by decide)),
    (h c main_arg4 (by decide)).trans (final_keep m c main_arg4 (by decide) (by decide) (by decide) (by decide)),
    (h c main_arg5 (by decide)).trans (final_keep m c main_arg5 (by decide) (by decide) (by decide) (by decide)),
    (h c main_arg6 (by decide)).trans (final_keep m c main_arg6 (by decide) (by decide) (by decide) (by decide)),
    (h c main_arg7 (by decide)).trans (final_keep m c main_arg7 (by decide) (by decide) (by decide) (by decide)),
    (h c main_arg8 (by decide)).trans (final_keep m c main_arg8 (by decide) (by decide) (by decide) (by decide)),
    (h c main_arg9 (by decide)).trans (final_keep m c main_arg9 (by decide) (by decide) (by decide) (by decide)),
    (h c main_arg10 (by decide)).trans (final_keep m c main_arg10 (by decide) (by decide) (by decide) (by decide)),
    (h c main_arg11 (by decide)).trans (final_keep m c main_arg11 (by decide) (by decide) (by decide) (by decide)),
    (h c main_arg12 (by decide)).trans (final_keep m c main_arg12 (by decide) (by decide) (by decide) (by decide))⟩,
    Idealize.ShloMosaic.sem_eq_zero_of_no_sems (by decide) r.2⟩) (run_fold m ρ)

end Cert.ReferenceIdeal.Scan

end
-- ==== Proof.Spec.lean ====
module

public import Idealize.ShloMosaic.Lib.Pointwise

@[expose] public section

noncomputable section

/-! The block's mathematics at an index: what the reference computes and what the kernel is proved to compute, as functions of the
    thirteen inputs over the extended reals. Batches are `Fin 2`, rows `Fin 1024`, inner channels `Fin 2048`, state coordinates
    `Fin 16`. -/

namespace Cert.Spec

open Idealize.ShloMosaic
open scoped BigOperators

/-- The inputs. -/
structure Inp where
  x : (⟨3, ![2, 1024, 1024]⟩ : Shape).Idx → EReal
  lng : (⟨1, ![1024]⟩ : Shape).Idx → EReal
  lnb : (⟨1, ![1024]⟩ : Shape).Idx → EReal
  win : (⟨2, ![1024, 4096]⟩ : Shape).Idx → EReal
  cw : (⟨3, ![2048, 1, 4]⟩ : Shape).Idx → EReal
  cb : (⟨1, ![2048]⟩ : Shape).Idx → EReal
  wb : (⟨2, ![2048, 16]⟩ : Shape).Idx → EReal
  wc : (⟨2, ![2048, 16]⟩ : Shape).Idx → EReal
  wd : (⟨2, ![2048, 2048]⟩ : Shape).Idx → EReal
  bd : (⟨1, ![2048]⟩ : Shape).Idx → EReal
  la : (⟨2, ![2048, 16]⟩ : Shape).Idx → EReal
  dp : (⟨1, ![2048]⟩ : Shape).Idx → EReal
  wo : (⟨2, ![2048, 1024]⟩ : Shape).Idx → EReal

/-- The row length as the programs spell it. -/
abbrev len : EReal := Ideal.ofBits FTy.f32 1149239296#32
/-- The small number added to a variance. -/
abbrev eps : EReal := Ideal.ofBits FTy.f32 925353388#32

/-- A number as a row. -/
def row (t : ℕ) : Fin 1024 := ⟨t % 1024, Nat.mod_lt _ (by decide)⟩

theorem row_val (t : Fin 1024) : row t.val = t := Fin.ext (Nat.mod_eq_of_lt t.isLt)

theorem row_of_lt {t : ℕ} (h : t < 1024) : row t = ⟨t, h⟩ := Fin.ext (Nat.mod_eq_of_lt h)

/-- `a / (1 + exp (-a))`. -/
def silu (a : EReal) : EReal := a * Ideal.div 1 (1 + Ideal.exp (-a))

/-- `log (1 + exp a)`, in the form that does not overflow. -/
def softplus (a : EReal) : EReal := max a 0 + Ideal.log1p (Ideal.exp (-(FloatOps.absf (F := Ideal) (φ := .f32) a)))

variable (P : Inp)

/-- A row's mean. -/
def mu (b : Fin 2) (t : Fin 1024) : EReal := Ideal.div (∑ j, P.x (ix3 b t j)) len

/-- A row's variance. -/
def vr (b : Fin 2) (t : Fin 1024) : EReal :=
  Ideal.div (∑ j, (P.x (ix3 b t j) - mu P b t) * (P.x (ix3 b t j) - mu P b t)) len

/-- A row, normalised. -/
def xn (b : Fin 2) (t j : Fin 1024) : EReal :=
  (P.x (ix3 b t j) - mu P b t) * Ideal.rsqrt (vr P b t + eps) * P.lng (ix1 j) + P.lnb (ix1 j)

/-- The input projection. -/
def xz (b : Fin 2) (t : Fin 1024) (e : Fin 4096) : EReal := ∑ j, xn P b t j * P.win (ix2 j e)

/-- The branch the scan works on. -/
def xr (b : Fin 2) (t : Fin 1024) (d : Fin 2048) : EReal := xz P b t ⟨d.val, by omega⟩
/-- The branch that gates. -/
def zg (b : Fin 2) (t : Fin 1024) (d : Fin 2048) : EReal := xz P b t ⟨2048 + d.val, by omega⟩

/-- The branch with three rows of zeros in front. -/
def pd (b : Fin 2) (s : ℕ) (d : Fin 2048) : EReal := if 3 ≤ s then xr P b (row (s - 3)) d else 0

/-- The causal convolution over four rows. -/
def cv (b : Fin 2) (t : Fin 1024) (d : Fin 2048) : EReal :=
  pd P b t.val d * P.cw (ix3 d 0 0) + pd P b (1 + t.val) d * P.cw (ix3 d 0 1) + pd P b (2 + t.val) d * P.cw (ix3 d 0 2)
    + pd P b (3 + t.val) d * P.cw (ix3 d 0 3) + P.cb (ix1 d)

/-- The convolution, activated. -/
def xb (b : Fin 2) (t : Fin 1024) (d : Fin 2048) : EReal := silu (cv P b t d)

/-- The step size. -/
def dl (b : Fin 2) (t : Fin 1024) (d : Fin 2048) : EReal :=
  softplus (∑ j, xb P b t j * P.wd (ix2 j d) + P.bd (ix1 d))

/-- The rows of `B`. -/
def bm (b : Fin 2) (t : Fin 1024) (n : Fin 16) : EReal := ∑ j, xb P b t j * P.wb (ix2 j n)
/-- The rows of `C`. -/
def cm (b : Fin 2) (t : Fin 1024) (n : Fin 16) : EReal := ∑ j, xb P b t j * P.wc (ix2 j n)

/-- The decay of the state over a row. -/
def ab (b : Fin 2) (t : Fin 1024) (d : Fin 2048) (n : Fin 16) : EReal :=
  Ideal.exp (dl P b t d * -Ideal.exp (P.la (ix2 d n)))

/-- What a row adds to the state. -/
def bx (b : Fin 2) (t : Fin 1024) (d : Fin 2048) (n : Fin 16) : EReal := dl P b t d * bm P b t n * xb P b t d

/-- The state before row `k`. -/
def hs (b : Fin 2) (d : Fin 2048) (n : Fin 16) : ℕ → EReal
  | 0 => 0
  | k + 1 => ab P b (row k) d n * hs b d n k + bx P b (row k) d n

/-- The scan's output. -/
def ys (b : Fin 2) (t : Fin 1024) (d : Fin 2048) : EReal := ∑ n, hs P b d n (t.val + 1) * cm P b t n

/-- The gated output. -/
def gt (b : Fin 2) (t : Fin 1024) (d : Fin 2048) : EReal :=
  (ys P b t d + xb P b t d * P.dp (ix1 d)) * silu (zg P b t d)

/-- The result. -/
def out (b : Fin 2) (t e : Fin 1024) : EReal := ∑ d, gt P b t d * P.wo (ix2 d e) + P.x (ix3 b t e)

end Cert.Spec

end
-- ==== Proof.KVal.lean ====
module

public import proofs.«01_k».proof.Proof.KIBlock
public import proofs.«01_k».proof.Proof.Spec
public import Idealize.ShloMosaic.Lib.Pipeline.ValueKit.Tiles

@[expose] public section

set_option maxRecDepth 16384

noncomputable section

/-! What the fused kernel computes at one grid point, read at an index: on blocks that hold the mathematics' values, the values of
    the mathematics. -/

namespace Cert.KernelIdeal.Val

open Idealize.ShloMosaic Idealize.SL.Sem Cert.KernelIdeal Cert.KernelIdeal.Gen Cert.KernelIdeal.Scan
open scoped BigOperators

/-! ## The exponential to the base two -/

/-- The reciprocal of the logarithm of two. -/
abbrev lg : EReal := (((Real.log 2)⁻¹ : ℝ) : EReal)

theorem exp2_mul (a : EReal) : Ideal.exp2 (a * lg) = Ideal.exp a := by
  have hp : (0 : ℝ) < (Real.log 2)⁻¹ := inv_pos.2 (Real.log_pos (by norm_num))
  induction a using EReal.rec with
  | bot => rw [EReal.bot_mul_coe_of_pos hp]; rfl
  | top => rw [EReal.top_mul_coe_of_pos hp]; rfl
  | coe r =>
    rw [← EReal.coe_mul]
    show ((Real.rpow 2 (r * (Real.log 2)⁻¹) : ℝ) : EReal) = ((Real.exp r : ℝ) : EReal)
    congr 1
    show (2 : ℝ) ^ (r * (Real.log 2)⁻¹) = Real.exp r
    rw [Real.rpow_def_of_pos (by norm_num)]
    congr 1
    have : Real.log 2 ≠ 0 := (Real.log_pos (by norm_num)).ne'
    field_simp

/-- A power of two with the scaled rate is an exponential. -/
theorem decay_eq (a d : EReal) : Ideal.exp2 (a * lg * d) = Ideal.exp (d * a) := by
  rw [show a * lg * d = d * a * lg by rw [mul_comm (a * lg) d, mul_assoc], exp2_mul]

theorem named_lg : (Named.named κ "log2e" 0x3FB8AA3B#32 : Ideal .f32) = lg := rfl

theorem sum_five (a b c d e : EReal) : a + e + b + c + d = d + c + b + a + e := by ac_rfl

/-! ## One grid point -/

variable (P : Spec.Inp) (b : Fin 2) (l : Fin 4)

/-- Row `r` of block `l`. -/
def tr (r : Fin 256) : Fin 1024 := ⟨256 * l.val + r.val, by omega⟩

theorem row_tr (r : Fin 256) : Spec.row (256 * l.val + r.val) = tr l r := Spec.row_of_lt _

/-- The weights of the mathematics, as blocks. -/
structure IsW (W : Wts Ideal) : Prop where
  cw : ∀ (k : Fin 4) (d : Fin 2048), W.cw (ix2 k d) = P.cw (ix3 d 0 k)
  cb : ∀ d : Fin 2048, W.cb (ix2 0 d) = P.cb (ix1 d)
  wd : ∀ (j d : Fin 2048), W.wd (ix2 j d) = P.wd (ix2 j d)
  bd : ∀ d : Fin 2048, W.bd (ix2 0 d) = P.bd (ix1 d)
  wb : ∀ (j : Fin 2048) (n : Fin 16), W.wb (ix2 j n) = P.wb (ix2 j n)
  wc : ∀ (j : Fin 2048) (n : Fin 16), W.wc (ix2 j n) = P.wc (ix2 j n)
  la : ∀ (n : Fin 16) (d : Fin 2048), W.la (ix2 n d) = -Ideal.exp (P.la (ix2 d n))
  dp : ∀ d : Fin 2048, W.dp (ix2 0 d) = P.dp (ix1 d)
  wo : ∀ (d : Fin 2048) (e : Fin 1024), W.wo (ix2 d e) = P.wo (ix2 d e)

/-- A block of rows of the scanned branch. -/
def IsX (X : Vec Ideal S256x2048 .f32) : Prop := ∀ r d, X (ix2 r d) = Spec.xr P b (tr l r) d
/-- The rows before a block: only the last three are read. -/
def IsT (l : ℕ) (T : Vec Ideal S16x2048 .f32) : Prop :=
  ∀ (j : Fin 16) (d : Fin 2048), 13 ≤ j.val → T (ix2 j d) = Spec.pd P b (256 * l + j.val - 13) d
/-- The state before row `k`. -/
def IsH (k : ℕ) (H : Vec Ideal S16x2048 .f32) : Prop := ∀ (n : Fin 16) (d : Fin 2048), H (ix2 n d) = Spec.hs P b d n k

section
variable {P b l} {W : Wts Ideal} {X : Vec Ideal S256x2048 .f32} {T H : Vec Ideal S16x2048 .f32}
  (hW : IsW P W) (hX : IsX P b l X) (hT : IsT P b l T) (hH : IsH P b (256 * l.val) H)

theorem pay40_apply (X : Vec Ideal S256x2048 .f32) (r : Fin 256) (d : Fin 2048) : k1_pay40 X (ix2 r d) = X (ix2 r d) := by
  pointwise [k1_pay40]

include hX in
theorem row_pd (r : Fin 256) (d : Fin 2048) (k : ℕ) (hk : k ≤ r.val) (s : ℕ) (hs : s + k = 3 + (tr l r).val) :
    k1_pay40 X (ix2 ⟨r.val - k, by omega⟩ d) = Spec.pd P b s d := by
  have ht : (tr l r).val = 256 * l.val + r.val := rfl
  rw [pay40_apply, hX, Spec.pd, if_pos (by omega), show s - 3 = 256 * l.val + (r.val - k) by omega,
    ← row_tr l ⟨r.val - k, by omega⟩]

include hT in
theorem tail_pd (r : Fin 256) (d : Fin 2048) (j : ℕ) (hj : j < 16) (h13 : 13 ≤ j) (s : ℕ)
    (hs : s + 13 = 256 * l.val + j) : T (ix2 ⟨j, hj⟩ d) = Spec.pd P b s d := by
  rw [hT ⟨j, hj⟩ d h13]
  congr 1
  show 256 * l.val + j - 13 = s
  omega

include hW hX hT in
theorem conv_apply (r : Fin 256) (d : Fin 2048) : convB W X T (ix2 r d) = Spec.cv P b (tr l r) d := by
  have ht : (tr l r).val = 256 * l.val + r.val := rfl
  pointwise [convB, k1_pay41]
  have e3 : k1_pay40 X (ix2 r d) = Spec.pd P b (3 + (tr l r).val) d := row_pd hX r d 0 (Nat.zero_le _) _ rfl
  have e2 : (if h : r.val < 1 then T (ix2 ⟨15 + r.val, by omega⟩ d) else k1_pay40 X (ix2 ⟨r.val - 1, by omega⟩ d))
      = Spec.pd P b (2 + (tr l r).val) d := by
    split
    · exact tail_pd hT r d _ _ (by omega) _ (by omega)
    · exact row_pd hX r d 1 (by omega) _ (by omega)
  have e1 : (if h : r.val < 2 then T (ix2 ⟨14 + r.val, by omega⟩ d) else k1_pay40 X (ix2 ⟨r.val - 2, by omega⟩ d))
      = Spec.pd P b (1 + (tr l r).val) d := by
    split
    · exact tail_pd hT r d _ _ (by omega) _ (by omega)
    · exact row_pd hX r d 2 (by omega) _ (by omega)
  have e0 : (if h : r.val < 3 then T (ix2 ⟨13 + r.val, by omega⟩ d) else k1_pay40 X (ix2 ⟨r.val - 3, by omega⟩ d))
      = Spec.pd P b (tr l r).val d := by
    split
    · exact tail_pd hT r d _ _ (by omega) _ (by omega)
    · exact row_pd hX r d 3 (by omega) _ (by omega)
  rw [e3, e2, e1, e0, hW.cw, hW.cw, hW.cw, hW.cw, hW.cb]
  unfold Spec.cv
  exact sum_five ..

include hW hX hT in
theorem act_apply (r : Fin 256) (d : Fin 2048) : k1_pay43 (convB W X T) (ix2 r d) = Spec.xb P b (tr l r) d := by
  pointwise [k1_pay43]
  rw [conv_apply hW hX hT, zero_sub]
  rfl

include hW hX hT in
theorem act2_apply (r : Fin 256) (d : Fin 2048) : k1_pay44 (convB W X T) (ix2 r d) = Spec.xb P b (tr l r) d := by
  pointwise [k1_pay44]
  exact act_apply hW hX hT r d

include hW hX hT in
theorem xb_apply (r : Fin 256) (d : Fin 2048) : xbB W X T (ix2 r d) = Spec.xb P b (tr l r) d := act_apply hW hX hT r d

include hW hX hT in
theorem pre_apply (r : Fin 256) (d : Fin 2048) :
    ∑ x, k1_pay43 (convB W X T) (ix2 r x) * W.wd (ix2 x d) + W.bd (ix2 0 d)
      = ∑ j, Spec.xb P b (tr l r) j * P.wd (ix2 j d) + P.bd (ix1 d) := by
  rw [hW.bd]
  exact congrArg (· + _) (Finset.sum_congr rfl fun x _ => by rw [act_apply hW hX hT, hW.wd])

include hW hX hT in
theorem dl_apply (r : Fin 256) (d : Fin 2048) : dlB W X T (ix2 r d) = Spec.dl P b (tr l r) d := by
  pointwise [dlB, k1_pay46, k1_pay45]
  rw [pre_apply hW hX hT, zero_sub]
  rfl

include hW hX hT in
theorem dx_apply (r : Fin 256) (d : Fin 2048) :
    dxB W X T (ix2 r d) = Spec.dl P b (tr l r) d * Spec.xb P b (tr l r) d := by
  pointwise [dxB, k1_pay47, k1_pay45]
  rw [pre_apply hW hX hT, zero_sub, act_apply hW hX hT]
  rfl

include hW hX hT in
theorem bt_apply (n : Fin 16) (r : Fin 256) : btB W X T (ix2 n r) = Spec.bm P b (tr l r) n := by
  pointwise [btB, k1_pay48]
  exact Finset.sum_congr rfl fun x _ => by rw [xb_apply hW hX hT, hW.wb, mul_comm]

include hW hX hT in
theorem ct_apply (r : Fin 256) (n : Fin 16) : ctB W X T (ix2 r n) = Spec.cm P b (tr l r) n := by
  pointwise [ctB, k1_pay49]
  exact Finset.sum_congr rfl fun x _ => by rw [xb_apply hW hX hT, hW.wc]

include hW in
theorem la_apply (n : Fin 16) (d : Fin 2048) : k1_pay50 W.la (ix2 n d) = -Ideal.exp (P.la (ix2 d n)) * lg := by
  pointwise [k1_pay50]
  rw [hW.la, named_lg]

/-! ## The scan of a block -/

theorem step_apply (A dl dx : FVec Ideal S16x2048 .f32) (bt : FVec Ideal S16x16 .f32) (r : Fin 16) (h : FVec Ideal S16x2048 .f32)
    (n : Fin 16) (d : Fin 2048) :
    stepRow A dl dx bt r h (ix2 n d) = Ideal.exp2 (A (ix2 n d) * dl (ix2 r d)) * h (ix2 n d) + bt (ix2 n r) * dx (ix2 r d) := by
  pointwise [stepRow]
  rfl

theorem off4_eq : ∀ k : Fin k1_t1_loop.trips, k1_off4 k = ![16 * k.val, 0] := by decide +kernel

theorem rows8_apply (Y : Vec Ideal S256x2048 .f32) (k : Fin k1_t1_loop.trips) (i : Fin 16) (d : Fin 2048) (q : Fin 256)
    (hq : q.val = 16 * k.val + i.val) : rows8 Y k (ix2 i d) = Y (ix2 q d) := by
  refine View.ld_unit_apply_of Y _ _ _ _ _ fun a => ?_
  have h := congrFun (off4_eq k) a
  show ((ix2 q d : S256x2048.Idx) a).val = k1_off4 k a + ((ix2 i d : S16x2048.Idx) a).val
  rw [h]
  match a with
  | ⟨0, _⟩ => exact hq
  | ⟨1, _⟩ => exact (Nat.zero_add _).symm

theorem turn : ∀ k : Fin k1_t1_loop.trips,
    (Scalar.andi (Scalar.subi 256#32 (Scalar.muli (Scf.iv 0#32 1#32 k) 16#32)) 255#32).toNat = (256 - 16 * k.val) % 256 := by
  decide +kernel

theorem bt8_apply (B : FVec Ideal S16x256 .f32) (k : Fin k1_t1_loop.trips) (n i : Fin 16) (q : Fin 256)
    (hq : q.val = 16 * k.val + i.val) : k1_pay3 B 0#32 1#32 k (ix2 n i) = B (ix2 n q) := by
  pointwise [k1_pay3]
  congr 2
  apply Fin.ext
  have hk : k.val < 16 := trips_eq ▸ k.isLt
  show (i.val + 256 - (Scalar.andi (Scalar.subi 256#32 (Scalar.muli (Scf.iv 0#32 1#32 k) 16#32)) 255#32).toNat % 256) % 256
    = q.val
  rw [turn]
  omega

/-- The entry of the selecting matrix, as a bit. -/
def bit (i : Fin 16) (j : Fin 256) : BitVec 32 := k1_pay52 (ix2 i j)

theorem bit_eq : ∀ (i : Fin 16) (j : Fin 256), bit i j = if j.val / 16 = i.val then 1#32 else 0#32 := by decide +kernel

theorem mask_apply (i : Fin 16) (j : Fin 256) :
    k1_pay53 (F := Ideal) k1_pay52 (ix2 i j) = if j.val / 16 = i.val then (1 : EReal) else 0 := by
  show (((bit i j).toInt : ℝ) : EReal) = _
  rw [bit_eq]
  split
  · show (((1 : ℤ) : ℝ) : EReal) = 1
    norm_num
  · show (((0 : ℤ) : ℝ) : EReal) = 0
    norm_num

/-- The product with the states, of a matrix already selected. -/
def mix (D V : FVec Ideal S16x256 .f32) (S : FVec Ideal S1x256x2048 .f32) : FVec Ideal S16x2048 .f32 :=
  shapeCast S16x2048 (matmul dot_S16x256_S256x2048_S16x2048_1_0_0_1_n_n none (mulf D V)
    (shapeCast S256x2048 S shapeCasts_S1x256x2048_S256x2048) (constant S16x2048 .f32 0x00000000#32)) shapeCasts_S16x2048_S16x2048

theorem mix_apply (D V : FVec Ideal S16x256 .f32) (S : FVec Ideal S1x256x2048 .f32) (i : Fin 16) (d : Fin 2048) :
    mix D V S (ix2 i d) = ∑ j, D (ix2 i j) * V (ix2 i j) * S (ix3 0 j d) := by
  pointwise [mix]

/-- Sixteen copies of a square block side by side. -/
def side (C : Vec Ideal S16x16 .f32) : FVec Ideal S16x256 .f32 :=
  concatenate S16x256 1 (List.replicate 16 (⟨S16x16, C⟩ : (s : Shape) × (s.Idx → Ideal .f32)))
    concatenates_S16x16_S16x16_S16x16_S16x16_S16x16_S16x16_S16x16_S16x16_S16x16_S16x16_S16x16_S16x16_S16x16_S16x16_S16x16_S16x16_S16x256_d1

theorem side_apply (C : Vec Ideal S16x16 .f32) (i : Fin 16) (j : Fin 256) :
    side C (ix2 i j) = C (ix2 i ⟨j.val % 16, by omega⟩) := by
  refine concatenate_replicate_apply (t := S16x256) (s₁ := S16x16) 1 16 C _ rfl _ _ rfl fun a ha => ?_
  match a with
  | ⟨0, _⟩ => rfl
  | ⟨1, _⟩ => exact absurd rfl ha

theorem pay2_eq (D : FVec Ideal S16x256 .f32) (C : Vec Ideal S16x16 .f32) (S : Vec Ideal S1x256x2048 .f32) :
    k1_pay2 D C S = mix D (side C) S := rfl

/-- A sum over sixteen groups of sixteen that keeps one group. -/
theorem sum_group (f : Fin 256 → EReal) (i : Fin 16) :
    ∑ j : Fin 256, (if j.val / 16 = i.val then f j else 0) = ∑ n : Fin 16, f ⟨16 * i.val + n.val, by omega⟩ := by
  rw [← Finset.sum_filter]
  refine Finset.sum_bij' (fun j _ => (⟨j.val % 16, by omega⟩ : Fin 16)) (fun n _ => ⟨16 * i.val + n.val, by omega⟩) ?_ ?_ ?_ ?_ ?_
  · exact fun _ _ => Finset.mem_univ _
  · intro n _
    refine Finset.mem_filter.2 ⟨Finset.mem_univ _, ?_⟩
    show (16 * i.val + n.val) / 16 = i.val
    omega
  · intro j hj
    have := (Finset.mem_filter.1 hj).2
    apply Fin.ext
    show 16 * i.val + j.val % 16 = j.val
    omega
  · intro n _
    apply Fin.ext
    show (16 * i.val + n.val) % 16 = n.val
    omega
  · intro j hj
    have := (Finset.mem_filter.1 hj).2
    congr 1
    apply Fin.ext
    show j.val = 16 * i.val + j.val % 16
    omega

theorem yg_apply (C : Vec Ideal S16x16 .f32) (S : Vec Ideal S1x256x2048 .f32) (i : Fin 16) (d : Fin 2048) :
    k1_pay2 (k1_pay53 (F := Ideal) k1_pay52) C S (ix2 i d)
      = ∑ n : Fin 16, S (ix3 0 ⟨16 * i.val + n.val, by omega⟩ d) * C (ix2 i n) := by
  rw [pay2_eq, mix_apply]
  have h : ∀ j : Fin 256, (k1_pay53 (F := Ideal) k1_pay52 (ix2 i j) : EReal) * side C (ix2 i j) * S (ix3 0 j d)
      = if j.val / 16 = i.val then (S (ix3 0 j d) * C (ix2 i ⟨j.val % 16, by omega⟩) : EReal) else 0 := by
    intro j
    rw [mask_apply, side_apply]
    split
    · rw [one_mul, mul_comm]
    · rw [zero_mul, zero_mul]
  refine (Finset.sum_congr rfl fun j _ => h j).trans ?_
  refine (sum_group (fun j => (S (ix3 0 j d) * C (ix2 i ⟨j.val % 16, by omega⟩) : EReal)) i).trans ?_
  refine Finset.sum_congr rfl fun n _ => ?_
  have e : (⟨(16 * i.val + n.val) % 16, by omega⟩ : Fin 16) = n := Fin.ext (by show (16 * i.val + n.val) % 16 = n.val; omega)
  rw [e]

include hW hX hT in
/-- The states of a group of sixteen rows. -/
theorem grp_apply (k : Fin k1_t1_loop.trips) (h : FVec Ideal S16x2048 .f32) (hh : IsH P b (256 * l.val + 16 * k.val) h) :
    ∀ r : ℕ, r ≤ 16 → IsH P b (256 * l.val + 16 * k.val + r)
      (grp (k1_pay50 W.la) (btB W X T) (dlB W X T) (dxB W X T) k h r)
  | 0, _ => hh
  | r + 1, hr => by
    intro n d
    have ih := grp_apply k h hh r (by omega) n d
    have hk : k.val < 16 := trips_eq ▸ k.isLt
    have hq : (⟨16 * k.val + r, by omega⟩ : Fin 256).val = 16 * k.val + (Fin.ofNat 16 r).val := by
      show 16 * k.val + r = 16 * k.val + r % 16
      omega
    have ht : Spec.row (256 * l.val + 16 * k.val + r) = tr l ⟨16 * k.val + r, by omega⟩ := by
      rw [← row_tr]; congr 1; show _ = 256 * l.val + (16 * k.val + r); omega
    refine (step_apply _ _ _ _ _ _ n d).trans ?_
    rw [la_apply hW, rows8_apply _ k _ d _ hq, rows8_apply _ k _ d _ hq, bt8_apply _ k n _ _ hq, dl_apply hW hX hT,
      dx_apply hW hX hT, bt_apply hW hX hT, decay_eq]
    refine (congrArg (fun z : EReal => _ * z + _) ih).trans ?_
    show _ = Spec.ab P b (Spec.row (256 * l.val + 16 * k.val + r)) d n * Spec.hs P b d n (256 * l.val + 16 * k.val + r)
      + Spec.bx P b (Spec.row (256 * l.val + 16 * k.val + r)) d n
    rw [ht]
    unfold Spec.ab Spec.bx
    rw [mul_left_comm, ← mul_assoc]

include hW hX hT hH in
/-- The state before each group of a block. -/
theorem st_apply : ∀ k : ℕ, k ≤ 16 → IsH P b (256 * l.val + 16 * k) (stB W X T H k)
  | 0, _ => hH
  | k + 1, hk => by
    have e : (kk k).val = k := Nat.mod_eq_of_lt (by rw [trips_eq]; omega)
    have := grp_apply hW hX hT (kk k) (stB W X T H k) (by rw [e]; exact st_apply k (by omega)) 16 le_rfl
    rw [e, show 256 * l.val + 16 * k + 16 = 256 * l.val + 16 * (k + 1) by omega] at this
    exact this

include hW hX hT hH in
theorem ys_apply (r : Fin 256) (d : Fin 2048) : ysB W X T H (ix2 r d) = Spec.ys P b (tr l r) d := by
  have e : (kk (r.val / 16)).val = r.val / 16 := Nat.mod_eq_of_lt (by rw [trips_eq]; omega)
  refine (yg_apply _ _ _ _).trans ?_
  refine Finset.sum_congr rfl fun n _ => congrArg₂ (fun u v : EReal => u * v) ?_ ?_
  · have h1 := grp_apply hW hX hT (kk (r.val / 16)) (stB W X T H (r.val / 16))
      (by rw [e]; exact st_apply hW hX hT hH _ (by omega)) (r.val % 16 + 1) (by omega) n d
    rw [e, show 256 * l.val + 16 * (r.val / 16) + (r.val % 16 + 1) = (tr l r).val + 1 by
      show _ = 256 * l.val + r.val + 1; omega] at h1
    rw [← h1]
    have e1 : (16 * (r.val % 16) + n.val) / 16 = r.val % 16 := by omega
    have e2 : (⟨(16 * (r.val % 16) + n.val) % 16, Nat.mod_lt _ (by decide)⟩ : Fin 16) = n :=
      Fin.ext (by show (16 * (r.val % 16) + n.val) % 16 = n.val; omega)
    show grp _ _ _ _ _ _ ((16 * (r.val % 16) + n.val) / 16 + 1)
      (ix2 (⟨(16 * (r.val % 16) + n.val) % 16, Nat.mod_lt _ (by decide)⟩ : Fin 16) d) = _
    rw [e1, e2]
    rfl
  · rw [← ct_apply hW hX hT]
    unfold ct8
    refine View.ld_unit_apply_of _ _ _ _ _ _ fun a => ?_
    match a with
    | ⟨0, _⟩ => show r.val = 16 * (r.val / 16 % 16) + r.val % 16; omega
    | ⟨1, _⟩ => exact (Nat.zero_add _).symm

/-! ## What a grid point leaves -/

include hW hX hT hH in
theorem out_apply (Z : Vec Ideal S256x2048 .f32) (R : Vec Ideal S256x1024 .f32)
    (hZ : ∀ r d, Z (ix2 r d) = Spec.zg P b (tr l r) d) (hR : ∀ r e, R (ix2 r e) = P.x (ix3 b (tr l r) e))
    (r : Fin 256) (e : Fin 1024) : outB W X T H Z R (ix2 r e) = Spec.out P b (tr l r) e := by
  pointwise [outB, k1_pay1]
  rw [hR]
  refine congrArg (fun z : EReal => z + _) (Finset.sum_congr rfl fun d _ => ?_)
  rw [hW.wo]
  refine congrArg (fun z : EReal => z * _) ?_
  pointwise [k1_pay61, k1_pay51]
  rw [ys_apply hW hX hT hH, act2_apply hW hX hT, hZ, hW.dp, zero_sub]
  rfl

include hW hX hT hH in
theorem h_apply : IsH P b (256 * (l.val + 1)) (hB W X T H) := by
  have := st_apply hW hX hT hH 16 le_rfl
  intro n d
  pointwise [hB, k1_pay59]
  exact this n d

include hX in
theorem tl_apply : IsT P b (l.val + 1) (tlB X) := by
  intro j d hj
  pointwise [tlB, k1_pay42]
  refine row_pd hX ⟨240 + j.val, by omega⟩ d 0 (Nat.zero_le _) _ ?_
  show _ = 3 + (256 * l.val + (240 + j.val))
  omega

end

end Cert.KernelIdeal.Val

end
-- ==== Proof.KArr.lean ====
module

public import proofs.«01_k».proof.Proof.KIRun
public import proofs.«01_k».proof.Proof.KVal
public import Idealize.ShloMosaic.Lib.Pipeline.ValueKit
public import Idealize.ShloMosaic.Lib.StableHlo.ReadAt

@[expose] public section

set_option maxRecDepth 16384

noncomputable section

/-! The arrays that the two kernels leave, at an index. -/

namespace Cert.KernelIdeal.Val

open Idealize.ShloMosaic Idealize.ShloMosaic.TcCoe Idealize.SL.Sem Cert.KernelIdeal Cert.KernelIdeal.Gen Cert.KernelIdeal.Scan
open Idealize.ShloMosaic.Pipeline (Dat Cfg Window)
open scoped BigOperators

variable (m : (ℓ : Loc nD τ sig) → Buf (Elt Ideal) ℓ) (c : Dev nD)

/-- The inputs a device begins with. -/
def inp : Spec.Inp where
  x := V0 m c (Proc.devRef .tc main_arg0)
  lng := V0 m c (Proc.devRef .tc main_arg1)
  lnb := V0 m c (Proc.devRef .tc main_arg2)
  win := V0 m c (Proc.devRef .tc main_arg3)
  cw := V0 m c (Proc.devRef .tc main_arg4)
  cb := V0 m c (Proc.devRef .tc main_arg5)
  wb := V0 m c (Proc.devRef .tc main_arg6)
  wc := V0 m c (Proc.devRef .tc main_arg7)
  wd := V0 m c (Proc.devRef .tc main_arg8)
  bd := V0 m c (Proc.devRef .tc main_arg9)
  la := V0 m c (Proc.devRef .tc main_arg10)
  dp := V0 m c (Proc.devRef .tc main_arg11)
  wo := V0 m c (Proc.devRef .tc main_arg12)

/-! ## Before the first kernel -/

/-- Row `n` of the rows taken together: sequence `n / 1024`, place `n % 1024`. -/
def sq (n : Fin 2048) : Fin 2 := ⟨n.val / 1024, by omega⟩
def pl (n : Fin 2048) : Fin 1024 := ⟨n.val % 1024, by omega⟩

theorem rows_x (n : Fin 2048) (j : Fin 1024) :
    (V1 m c (Proc.devRef .tc main_v0)) (ix2 n j) = (inp m c).x (ix3 (sq n) (pl n) j) := by
  unfold V1
  after_reads_at
  rfl

theorem gain (j : Fin 1024) : (V1 m c (Proc.devRef .tc main_v1)) (ix2 (0 : Fin 1) j) = (inp m c).lng (ix1 j) := by
  unfold V1
  after_reads_at
  rfl

theorem bias (j : Fin 1024) : (V1 m c (Proc.devRef .tc main_v2)) (ix2 (0 : Fin 1) j) = (inp m c).lnb (ix1 j) := by
  unfold V1
  after_reads_at
  rfl

/-! ## The first kernel -/

theorem index0_0 : ∀ t : Fin cfg0.N, win0_0.index t = ![t.val % 4, 0] := (by decide +kernel : ∀ t : Fin grid0.N, _)
theorem index0_1 : ∀ t : Fin cfg0.N, win0_1.index t = ![0, 0] := (by decide +kernel : ∀ t : Fin grid0.N, _)
theorem index0_2 : ∀ t : Fin cfg0.N, win0_2.index t = ![0, 0] := (by decide +kernel : ∀ t : Fin grid0.N, _)
theorem index0_3 : ∀ t : Fin cfg0.N, win0_3.index t = ![0, t.val / 4] := (by decide +kernel : ∀ t : Fin grid0.N, _)
theorem index0_4 : ∀ t : Fin cfg0.N, win0_4.index t = ![t.val % 4, t.val / 4] := (by decide +kernel : ∀ t : Fin grid0.N, _)

theorem N0 : cfg0.N = 8 := by decide +kernel

theorem at0_0 (t : Fin cfg0.N) (r : Fin 512) (j : Fin 1024) (n : Fin 2048) (hn : n.val = t.val % 4 * 512 + r.val) :
    (blk0 (Va m) c 0 t (ix2 r j) : EReal) = (inp m c).x (ix3 (sq n) (pl n) j) := by
  rw [← rows_x]
  blk_simp [blk0]
  refine congrArg (V1 m c (Proc.devRef .tc main_v0)) ?_
  blk_ext [index0_0]

theorem at0_1 (t : Fin cfg0.N) (j : Fin 1024) : (blk0 (Va m) c 1 t (ix2 (0 : Fin 1) j) : EReal) = (inp m c).lng (ix1 j) := by
  rw [← gain]
  blk_simp [blk0]
  refine congrArg (V1 m c (Proc.devRef .tc main_v1)) ?_
  blk_ext [index0_1]

theorem at0_2 (t : Fin cfg0.N) (j : Fin 1024) : (blk0 (Va m) c 2 t (ix2 (0 : Fin 1) j) : EReal) = (inp m c).lnb (ix1 j) := by
  rw [← bias]
  blk_simp [blk0]
  refine congrArg (V1 m c (Proc.devRef .tc main_v2)) ?_
  blk_ext [index0_2]

theorem at0_3 (t : Fin cfg0.N) (j : Fin 1024) (d : Fin 2048) (e : Fin 4096) (he : e.val = t.val / 4 * 2048 + d.val) :
    (blk0 (Va m) c 3 t (ix2 j d) : EReal) = (inp m c).win (ix2 j e) := by
  rw [show (inp m c).win = V1 m c (Proc.devRef .tc main_arg3) from (V1_of m c main_arg3 (by decide)).symm]
  blk_simp [blk0]
  refine congrArg (V1 m c (Proc.devRef .tc main_arg3)) ?_
  blk_ext [index0_3]

/-- One block of the first kernel's result, from the inputs' blocks. -/
theorem proj_apply (P : Spec.Inp) (b : Fin 2) (p : Fin 1024) (X : Vec Ideal S512x1024 .f32) (G B : Vec Ideal S1x1024 .f32)
    (Wm : Vec Ideal S1024x2048 .f32) (r : Fin 512) (d : Fin 2048) (e : Fin 4096)
    (hX : ∀ j, X (ix2 r j) = P.x (ix3 b p j)) (hG : ∀ j, G (ix2 (0 : Fin 1) j) = P.lng (ix1 j))
    (hB : ∀ j, B (ix2 (0 : Fin 1) j) = P.lnb (ix1 j)) (hW : ∀ j, Wm (ix2 j d) = P.win (ix2 j e)) :
    k0_pay1 X G B Wm (ix2 r d) = Spec.xz P b p e := by
  pointwise [k0_pay1]
  have hs : (∑ j, X (ix2 r j) : EReal) = ∑ j, P.x (ix3 b p j) := Finset.sum_congr rfl fun j _ => hX j
  refine Finset.sum_congr rfl fun j _ => ?_
  rw [hW, hG, hB, hX]
  unfold Spec.xn Spec.vr Spec.mu
  refine congrArg (fun z : EReal => z * _) (congrArg (fun z : EReal => z + _) (congrArg (fun z : EReal => z * _) ?_))
  refine congrArg₂ (fun u v : EReal => (_ - Ideal.div u _) * Ideal.rsqrt (Ideal.div v _ + _)) hs (Finset.sum_congr rfl fun k _ => ?_)
  exact congrArg₂ (fun u v : EReal => (u - Ideal.div v _) * (u - Ideal.div v _)) (hX k) hs

/-- The first kernel's result: the projected rows. -/
theorem res0_apply (n : Fin 2048) (e : Fin 4096) : (res0 m c (ix2 n e) : EReal) = Spec.xz (inp m c) (sq n) (pl n) e := by
  have h : res0 m c = fun y => (Spec.xz (inp m c) (sq (y 0)) (pl (y 0)) (y 1) : EReal) := by
    refine (dat0 (Va m) c).arrAt_eq_of_covers 4 _ (by decide +kernel) fun t hf y => ?_
    blk_simp
    obtain ⟨r, d, rfl⟩ : ∃ (r : Fin 512) (d : Fin 2048), y = ix2 r d := ⟨y 0, y 1, by funext a; fin_cases a <;> rfl⟩
    have ht : t.val < 8 := lt_of_lt_of_eq t.isLt N0
    have e0 : (((win0_4.blk t).view.emb (ix2 r d) 0 : Fin 2048)).val = t.val % 4 * 512 + r.val := by blk_simp [index0_4]
    have e1 : (((win0_4.blk t).view.emb (ix2 r d) 1 : Fin 4096)).val = t.val / 4 * 2048 + d.val := by blk_simp [index0_4]
    exact proj_apply _ _ _ _ _ _ _ r d _ (fun j => at0_0 m c t r j _ e0) (fun j => at0_1 m c t j) (fun j => at0_2 m c t j)
      (fun j => at0_3 m c t j d _ e1)
  rw [h]
  rfl

/-! ## Between the kernels -/

theorem vb_res : (Vb m c main_v3 : Buf (Elt Ideal) _) = res0 m c := by
  rw [show Vb m c main_v3 = V2 m (outs0 m) c main_v3 from V3_of m (outs0 m) c main_v3 (by decide)]
  unfold V2
  rw [Function.update_self]
  exact outs_2 m c

theorem vb_x (n : Fin 2048) (j : Fin 1024) : (Vb m c main_v0 (ix2 n j) : EReal) = (inp m c).x (ix3 (sq n) (pl n) j) := by
  rw [← rows_x]
  exact congrFun ((V3_of m (outs0 m) c main_v0 (by decide)).trans (V2_of m (outs0 m) c main_v0 (by decide))) _

/-- An argument is not written before the second kernel. -/
theorem v2_arg (r : Ref sig .tc) (h2 : r ∉ ([main_v3] : List (Ref sig .tc))) (h1 : r ∉ hostOps0_W) :
    V2 m (outs0 m) c r = V0 m c r := (V2_of m (outs0 m) c r h2).trans (V1_of m c r h1)
theorem vb_arg (r : Ref sig .tc) (h3 : r ∉ hostOps1_W) (h2 : r ∉ ([main_v3] : List (Ref sig .tc))) (h1 : r ∉ hostOps0_W) :
    Vb m c r = V0 m c r := (V3_of m (outs0 m) c r h3).trans (v2_arg m c r h2 h1)

theorem vb_cw (k : Fin 4) (d : Fin 2048) : (Vb m c main_v5 (ix2 k d) : EReal) = (inp m c).cw (ix3 d 0 k) := by
  unfold Vb V3
  after_reads_at
  rw [v2_arg m c main_arg4 (by decide) (by decide)]
  rfl

theorem vb_la (n : Fin 16) (d : Fin 2048) : (Vb m c main_v8 (ix2 n d) : EReal) = -Ideal.exp ((inp m c).la (ix2 d n)) := by
  unfold Vb V3
  after_reads_at
  rw [v2_arg m c main_arg10 (by decide) (by decide)]
  rfl

theorem vb_cb (d : Fin 2048) : (Vb m c main_v9 (ix2 (0 : Fin 1) d) : EReal) = (inp m c).cb (ix1 d) := by
  unfold Vb V3
  after_reads_at
  rw [v2_arg m c main_arg5 (by decide) (by decide)]
  rfl

theorem vb_bd (d : Fin 2048) : (Vb m c main_v10 (ix2 (0 : Fin 1) d) : EReal) = (inp m c).bd (ix1 d) := by
  unfold Vb V3
  after_reads_at
  rw [v2_arg m c main_arg9 (by decide) (by decide)]
  rfl

theorem vb_dp (d : Fin 2048) : (Vb m c main_v11 (ix2 (0 : Fin 1) d) : EReal) = (inp m c).dp (ix1 d) := by
  unfold Vb V3
  after_reads_at
  rw [v2_arg m c main_arg11 (by decide) (by decide)]
  rfl

/-! ## The second kernel's blocks -/

theorem index1_0 : ∀ t : Fin cfg1.N, win1_0.index t = ![t.val, 0] := (by decide +kernel : ∀ t : Fin grid1.N, _)
theorem index1_1 : ∀ t : Fin cfg1.N, win1_1.index t = ![t.val, 1] := (by decide +kernel : ∀ t : Fin grid1.N, _)
theorem index1_2 : ∀ t : Fin cfg1.N, win1_2.index t = ![t.val, 0] := (by decide +kernel : ∀ t : Fin grid1.N, _)
theorem index1_3 : ∀ t : Fin cfg1.N, win1_3.index t = ![0, 0] := (by decide +kernel : ∀ t : Fin grid1.N, _)
theorem index1_4 : ∀ t : Fin cfg1.N, win1_4.index t = ![0, 0] := (by decide +kernel : ∀ t : Fin grid1.N, _)
theorem index1_5 : ∀ t : Fin cfg1.N, win1_5.index t = ![0, 0] := (by decide +kernel : ∀ t : Fin grid1.N, _)
theorem index1_6 : ∀ t : Fin cfg1.N, win1_6.index t = ![0, 0] := (by decide +kernel : ∀ t : Fin grid1.N, _)
theorem index1_7 : ∀ t : Fin cfg1.N, win1_7.index t = ![0, 0] := (by decide +kernel : ∀ t : Fin grid1.N, _)
theorem index1_8 : ∀ t : Fin cfg1.N, win1_8.index t = ![0, 0] := (by decide +kernel : ∀ t : Fin grid1.N, _)
theorem index1_9 : ∀ t : Fin cfg1.N, win1_9.index t = ![0, 0] := (by decide +kernel : ∀ t : Fin grid1.N, _)
theorem index1_10 : ∀ t : Fin cfg1.N, win1_10.index t = ![0, 0] := (by decide +kernel : ∀ t : Fin grid1.N, _)
theorem index1_11 : ∀ t : Fin cfg1.N, win1_11.index t = ![0, 0] := (by decide +kernel : ∀ t : Fin grid1.N, _)
theorem index1_12 : ∀ t : Fin cfg1.N, win1_12.index t = ![t.val, 0] := (by decide +kernel : ∀ t : Fin grid1.N, _)

theorem N1 : cfg1.N = 8 := by decide +kernel

/-- The sequence and the block of a point. -/
def sb (t : Fin cfg1.N) : Fin 2 := ⟨t.val / 4, by have : t.val < 8 := lt_of_lt_of_eq t.isLt N1; omega⟩
def lb (t : Fin cfg1.N) : Fin 4 := ⟨t.val % 4, by omega⟩

/-- Row `r` of point `t`'s block is row `256 t + r` of the rows taken together. -/
theorem sq_pl (t : Fin cfg1.N) (r : Fin 256) (n : Fin 2048) (hn : n.val = t.val * 256 + r.val) :
    sq n = sb t ∧ pl n = tr (lb t) r := by
  have : t.val < 8 := lt_of_lt_of_eq t.isLt N1
  constructor
  · apply Fin.ext; show n.val / 1024 = t.val / 4; omega
  · apply Fin.ext; show n.val % 1024 = 256 * (t.val % 4) + r.val; omega

/-- A point's row among the rows taken together. -/
def gr (t : Fin cfg1.N) (r : Fin 256) : Fin 2048 := ⟨t.val * 256 + r.val, by have : t.val < 8 := lt_of_lt_of_eq t.isLt N1; omega⟩

theorem at1_0 (t : Fin cfg1.N) (r : Fin 256) (d : Fin 2048) :
    (blk1 (Vb m) c 0 t (ix2 r d) : EReal) = Spec.xr (inp m c) (sb t) (tr (lb t) r) d := by
  have e : (blk1 (Vb m) c 0 t (ix2 r d) : EReal) = Vb m c main_v3 (ix2 (gr t r) (⟨d.val, by omega⟩ : Fin 4096)) := by
    blk_simp [blk1]
    refine congrArg (Vb m c main_v3) ?_
    blk_ext [index1_0, gr]
  rw [e, vb_res, res0_apply, (sq_pl t r (gr t r) rfl).1, (sq_pl t r (gr t r) rfl).2]
  rfl

theorem at1_1 (t : Fin cfg1.N) (r : Fin 256) (d : Fin 2048) :
    (blk1 (Vb m) c 1 t (ix2 r d) : EReal) = Spec.zg (inp m c) (sb t) (tr (lb t) r) d := by
  have e : (blk1 (Vb m) c 1 t (ix2 r d) : EReal) = Vb m c main_v3 (ix2 (gr t r) (⟨2048 + d.val, by omega⟩ : Fin 4096)) := by
    blk_simp [blk1]
    refine congrArg (Vb m c main_v3) ?_
    blk_ext [index1_1, gr]
  rw [e, vb_res, res0_apply, (sq_pl t r (gr t r) rfl).1, (sq_pl t r (gr t r) rfl).2]
  rfl

theorem at1_2 (t : Fin cfg1.N) (r : Fin 256) (j : Fin 1024) :
    (blk1 (Vb m) c 2 t (ix2 r j) : EReal) = (inp m c).x (ix3 (sb t) (tr (lb t) r) j) := by
  have e : (blk1 (Vb m) c 2 t (ix2 r j) : EReal) = Vb m c main_v0 (ix2 (gr t r) j) := by
    blk_simp [blk1]
    refine congrArg (Vb m c main_v0) ?_
    blk_ext [index1_2, gr]
  rw [e, vb_x, (sq_pl t r (gr t r) rfl).1, (sq_pl t r (gr t r) rfl).2]

set_option maxHeartbeats 2000000 in
/-- The weights at every point are the inputs. -/
theorem at1_w (t : Fin cfg1.N) : IsW (inp m c) (wts (Vb m) c t) where
  cw k d := by
    rw [← vb_cw]
    show (blk1 (Vb m) c 3 t (ix2 k d) : EReal) = _
    blk_simp [blk1]
    refine congrArg (Vb m c main_v5) ?_
    blk_ext [index1_3]
  cb d := by
    rw [← vb_cb]
    show (blk1 (Vb m) c 4 t (ix2 (0 : Fin 1) d) : EReal) = _
    blk_simp [blk1]
    refine congrArg (Vb m c main_v9) ?_
    blk_ext [index1_4]
  wd j d := by
    rw [show (inp m c).wd = Vb m c main_arg8 from (vb_arg m c main_arg8 (by decide) (by decide) (by decide)).symm]
    show (blk1 (Vb m) c 5 t (ix2 j d) : EReal) = _
    blk_simp [blk1]
    refine congrArg (Vb m c main_arg8) ?_
    blk_ext [index1_5]
  bd d := by
    rw [← vb_bd]
    show (blk1 (Vb m) c 6 t (ix2 (0 : Fin 1) d) : EReal) = _
    blk_simp [blk1]
    refine congrArg (Vb m c main_v10) ?_
    blk_ext [index1_6]
  wb j n := by
    rw [show (inp m c).wb = Vb m c main_arg6 from (vb_arg m c main_arg6 (by decide) (by decide) (by decide)).symm]
    show (blk1 (Vb m) c 7 t (ix2 j n) : EReal) = _
    blk_simp [blk1]
    refine congrArg (Vb m c main_arg6) ?_
    blk_ext [index1_7]
  wc j n := by
    rw [show (inp m c).wc = Vb m c main_arg7 from (vb_arg m c main_arg7 (by decide) (by decide) (by decide)).symm]
    show (blk1 (Vb m) c 8 t (ix2 j n) : EReal) = _
    blk_simp [blk1]
    refine congrArg (Vb m c main_arg7) ?_
    blk_ext [index1_8]
  la n d := by
    rw [← vb_la]
    show (blk1 (Vb m) c 9 t (ix2 n d) : EReal) = _
    blk_simp [blk1]
    refine congrArg (Vb m c main_v8) ?_
    blk_ext [index1_9]
  dp d := by
    rw [← vb_dp]
    show (blk1 (Vb m) c 10 t (ix2 (0 : Fin 1) d) : EReal) = _
    blk_simp [blk1]
    refine congrArg (Vb m c main_v11) ?_
    blk_ext [index1_10]
  wo d e := by
    rw [show (inp m c).wo = Vb m c main_arg12 from (vb_arg m c main_arg12 (by decide) (by decide) (by decide)).symm]
    show (blk1 (Vb m) c 11 t (ix2 d e) : EReal) = _
    blk_simp [blk1]
    refine congrArg (Vb m c main_arg12) ?_
    blk_ext [index1_11]

/-! ## What is carried from point to point -/

theorem zeroH_apply (n : Fin 16) (d : Fin 2048) : (k1_pay38 (F := Ideal)) (ix2 n d) = (0 : EReal) := by
  pointwise [k1_pay38]
theorem zeroT_apply (n : Fin 16) (d : Fin 2048) : (k1_pay39 (F := Ideal)) (ix2 n d) = (0 : EReal) := by
  pointwise [k1_pay39]

/-- What a point starts from: the state and the rows of its own sequence. -/
def Starts (t : Fin cfg1.N) : Prop :=
  IsH (inp m c) (sb t) (256 * (lb t).val) (inH (Vb m) c t) ∧ IsT (inp m c) (sb t) (lb t).val (inT (Vb m) c t)

theorem starts_first (t : Fin cfg1.N) (h : t.val % 4 = 0) : Starts m c t := by
  have hf : first t = true := by unfold first; rw [h]; rfl
  unfold Starts inH inT
  rw [hf, show (lb t).val = 0 from h]
  constructor
  · intro n d
    exact zeroH_apply n d
  · intro j d hj
    refine (zeroT_apply j d).trans ?_
    unfold Spec.pd
    rw [if_neg (by omega)]

theorem starts : ∀ (n : ℕ) (h : n < cfg1.N), Starts m c ⟨n, h⟩
  | 0, h => starts_first m c _ rfl
  | n + 1, h => by
    by_cases h4 : (n + 1) % 4 = 0
    · exact starts_first m c _ h4
    have hn : n < cfg1.N := by omega
    obtain ⟨iH, iT⟩ := starts n hn
    have hf : first (⟨n + 1, h⟩ : Fin cfg1.N) = false := by unfold first; exact decide_eq_false h4
    have es : sb ⟨n + 1, h⟩ = sb ⟨n, hn⟩ := Fin.ext (by show (n + 1) / 4 = n / 4; omega)
    have el : (lb ⟨n + 1, h⟩).val = (lb ⟨n, hn⟩).val + 1 := by show (n + 1) % 4 = n % 4 + 1; omega
    have hX : IsX (inp m c) (sb ⟨n, hn⟩) (lb ⟨n, hn⟩) (blk1 (Vb m) c 0 ⟨n, hn⟩) := fun r d => at1_0 m c ⟨n, hn⟩ r d
    unfold Starts
    rw [es, el]
    unfold inH inT
    rw [hf]
    exact ⟨h_apply (at1_w m c ⟨n, hn⟩) hX iT iH, tl_apply hX⟩

/-! ## The second kernel's result -/

theorem res1_apply (n : Fin 2048) (e : Fin 1024) : (res1 m c (ix2 n e) : EReal) = Spec.out (inp m c) (sq n) (pl n) e := by
  have h : res1 m c = fun y => (Spec.out (inp m c) (sq (y 0)) (pl (y 0)) (y 1) : EReal) := by
    refine (dat1 (Vb m) c).arrAt_eq_of_covers 12 _ (by decide +kernel) fun t hf y => ?_
    blk_simp
    obtain ⟨r, d, rfl⟩ : ∃ (r : Fin 256) (d : Fin 1024), y = ix2 r d := ⟨y 0, y 1, by funext a; fin_cases a <;> rfl⟩
    have e0 : (((win1_12.blk t).view.emb (ix2 r d) 0 : Fin 2048)).val = t.val * 256 + r.val := by blk_simp [index1_12]
    have e1 : ((win1_12.blk t).view.emb (ix2 r d) 1 : Fin 1024) = d := Fin.ext (by blk_simp [index1_12])
    have o := out_apply (at1_w m c t) (fun r d => at1_0 m c t r d) (starts m c t.val t.isLt).2 (starts m c t.val t.isLt).1
      (blk1 (Vb m) c 1 t) (blk1 (Vb m) c 2 t) (at1_1 m c t) (at1_2 m c t) r d
    refine (show (_ : EReal) = _ from o).trans ?_
    rw [(sq_pl t r _ e0).1, (sq_pl t r _ e0).2]
    exact congrArg (Spec.out (inp m c) (sb t) (tr (lb t) r)) e1.symm
  rw [h]
  rfl

/-- The program's result. -/
theorem result_apply (b : Fin 2) (t e' : Fin 1024) :
    (V5 m (outs m) c (Proc.devRef .tc main_v13)) (ix3 b t e') = Spec.out (inp m c) b t e' := by
  unfold V5
  after_reads_at
  have e : V4 m (outs m) c (Proc.devRef .tc main_v12) = res1 m c := by
    unfold V4
    rw [Function.update_self]
    exact outs_4 m c
  rw [e]
  refine (res1_apply m c _ e').trans ?_
  rw [show sq ⟨b.val * 1024 + t.val, by omega⟩ = b from Fin.ext (by show (b.val * 1024 + t.val) / 1024 = b.val; omega),
    show pl ⟨b.val * 1024 + t.val, by omega⟩ = t from Fin.ext (by show (b.val * 1024 + t.val) % 1024 = t.val; omega)]

end Cert.KernelIdeal.Val

namespace Cert.KernelIdeal.Scan

open Idealize.ShloMosaic Idealize.ShloMosaic.TcCoe Cert.KernelIdeal Cert.KernelIdeal.Gen

/-- The result's contents at the program's end. -/
def result (m : (ℓ : Loc nD τ sig) → Buf (Elt Ideal) ℓ) (c : Dev nD) :
    Buf (Elt Ideal) ((c : Thread nD τ).loc main_v13) := V5 m (outs m) c main_v13

end Cert.KernelIdeal.Scan

end
-- ==== Proof.RefVal.lean ====
module

public import proofs.«01_k».proof.Proof.RefRun
public import proofs.«01_k».proof.Proof.Spec
public import Idealize.ShloMosaic.Lib.StableHlo.ReadAt

@[expose] public section

set_option maxRecDepth 16384

noncomputable section

/-! What the reference's stretches before its loop leave, read at an index. -/

open Idealize.ShloMosaic Idealize.ShloMosaic.TcCoe Idealize.SL.Sem
open scoped BigOperators

namespace Cert.ReferenceIdeal.Val

open Cert.ReferenceIdeal Cert.ReferenceIdeal.Gen Cert.ReferenceIdeal.Value Cert.ReferenceIdeal.Scan Idealize.ShloMosaic.StableHlo

variable (V : Valuation τ sig (Elt Ideal))

/-- The inputs a device begins with. -/
def inp : Spec.Inp where
  x := V (Proc.devRef .tc main_arg0)
  lng := V (Proc.devRef .tc main_arg1)
  lnb := V (Proc.devRef .tc main_arg2)
  win := V (Proc.devRef .tc main_arg3)
  cw := V (Proc.devRef .tc main_arg4)
  cb := V (Proc.devRef .tc main_arg5)
  wb := V (Proc.devRef .tc main_arg6)
  wc := V (Proc.devRef .tc main_arg7)
  wd := V (Proc.devRef .tc main_arg8)
  bd := V (Proc.devRef .tc main_arg9)
  la := V (Proc.devRef .tc main_arg10)
  dp := V (Proc.devRef .tc main_arg11)
  wo := V (Proc.devRef .tc main_arg12)

/-! The contents after each stretch. -/

def E1 : Valuation τ sig (Elt Ideal) := after hostOps0 V
def E2 : Valuation τ sig (Elt Ideal) := after hostOps0_1 (E1 V)
def E3 : Valuation τ sig (Elt Ideal) := after hostOps0_2 (E2 V)
def E4 : Valuation τ sig (Elt Ideal) := after hostOps0_3 (E3 V)
def E5 : Valuation τ sig (Elt Ideal) := after hostOps0_4 (E4 V)
def E6 : Valuation τ sig (Elt Ideal) := after hostOps0_5 (E5 V)
def E7 : Valuation τ sig (Elt Ideal) := after hostOps0_6 (E6 V)
def E8 : Valuation τ sig (Elt Ideal) := after hostOps0_7 (E7 V)
def E9 : Valuation τ sig (Elt Ideal) := after hostOps0_8 (E8 V)

theorem E9_eq : afterL preI V = E9 V := rfl

theorem k1 {r : Ref sig .tc} (h : r ∉ hostOps0_W := by decide) : E1 V (Proc.devRef .tc r) = V (Proc.devRef .tc r) :=
  after_of_writes_sub hostOps0 _ hostOps0_writes h
theorem k2 {r : Ref sig .tc} (h : r ∉ hostOps0_1_W := by decide) : E2 V (Proc.devRef .tc r) = E1 V (Proc.devRef .tc r) :=
  after_of_writes_sub hostOps0_1 _ hostOps0_1_writes h
theorem k3 {r : Ref sig .tc} (h : r ∉ hostOps0_2_W := by decide) : E3 V (Proc.devRef .tc r) = E2 V (Proc.devRef .tc r) :=
  after_of_writes_sub hostOps0_2 _ hostOps0_2_writes h
theorem k4 {r : Ref sig .tc} (h : r ∉ hostOps0_3_W := by decide) : E4 V (Proc.devRef .tc r) = E3 V (Proc.devRef .tc r) :=
  after_of_writes_sub hostOps0_3 _ hostOps0_3_writes h
theorem k5 {r : Ref sig .tc} (h : r ∉ hostOps0_4_W := by decide) : E5 V (Proc.devRef .tc r) = E4 V (Proc.devRef .tc r) :=
  after_of_writes_sub hostOps0_4 _ hostOps0_4_writes h
theorem k6 {r : Ref sig .tc} (h : r ∉ hostOps0_5_W := by decide) : E6 V (Proc.devRef .tc r) = E5 V (Proc.devRef .tc r) :=
  after_of_writes_sub hostOps0_5 _ hostOps0_5_writes h
theorem k7 {r : Ref sig .tc} (h : r ∉ hostOps0_6_W := by decide) : E7 V (Proc.devRef .tc r) = E6 V (Proc.devRef .tc r) :=
  after_of_writes_sub hostOps0_6 _ hostOps0_6_writes h
theorem k8 {r : Ref sig .tc} (h : r ∉ hostOps0_7_W := by decide) : E8 V (Proc.devRef .tc r) = E7 V (Proc.devRef .tc r) :=
  after_of_writes_sub hostOps0_7 _ hostOps0_7_writes h
theorem k9 {r : Ref sig .tc} (h : r ∉ hostOps0_8_W := by decide) : E9 V (Proc.devRef .tc r) = E8 V (Proc.devRef .tc r) :=
  after_of_writes_sub hostOps0_8 _ hostOps0_8_writes h

/-- The mean. -/
theorem mean (b : Fin 2) (t : Fin 1024) : (E1 V (Proc.devRef .tc main_v3)) (ix3 b t (0 : Fin 1)) = Spec.mu (inp V) b t := by
  unfold E1
  after_reads_at
  rfl

theorem zero1 : (E1 V (Proc.devRef .tc main_c)) ix0 = (0#32 : BitVec 32) := by
  unfold E1
  after_reads_at

/-- The row length is positive. -/
theorem len_pos : (0 : EReal) < Spec.len := by
  have e : Spec.len = ((1024 : ℝ) : EReal) := by
    simp [Spec.len, Ideal.ofBits, Ideal.ieee, -EReal.coe_mul]
    norm_num
  rw [e]
  exact EReal.coe_pos.2 (by norm_num)

theorem int_zero : (FloatOps.sitofp .f32 (0#32) : Ideal .f32) = (0 : EReal) := by
  show (((0#32 : BitVec 32).toInt : ℝ) : EReal) = 0
  rw [show (0#32 : BitVec 32).toInt = 0 from rfl]
  simp

/-- The variance: its divisor is the row length less zero. -/
theorem var (b : Fin 2) (t : Fin 1024) : (E2 V (Proc.devRef .tc main_v4)) (ix3 b t (0 : Fin 1)) = Spec.vr (inp V) b t := by
  unfold E2
  after_reads_at
  rw [zero1 V, k1 V]
  rw [int_zero, sub_zero, if_pos len_pos]
  rfl

/-- The projection's first half. -/
theorem proj_x (b : Fin 2) (t : Fin 1024) (e : Fin 2048) :
    (E3 V (Proc.devRef .tc main_v19)) (ix3 b t e) = Spec.xr (inp V) b t e := by
  unfold E3
  after_reads_at
  rw [var V b t, k2 V (r := main_v3), mean V b t, k2 V (r := main_arg0), k2 V (r := main_arg1), k2 V (r := main_arg2), k2 V (r := main_arg3),
    k1 V, k1 V, k1 V, k1 V]
  rfl

/-- The projection's second half. -/
theorem proj_z (b : Fin 2) (t : Fin 1024) (e : Fin 2048) :
    (E3 V (Proc.devRef .tc main_v20)) (ix3 b t e) = Spec.zg (inp V) b t e := by
  unfold E3
  after_reads_at
  rw [var V b t, k2 V (r := main_v3), mean V b t, k2 V (r := main_arg0), k2 V (r := main_arg1), k2 V (r := main_arg2), k2 V (r := main_arg3),
    k1 V, k1 V, k1 V, k1 V]
  rfl

theorem zero3 : (E3 V (Proc.devRef .tc main_c_2)) ix0 = (0#32 : BitVec 32) := by
  unfold E3
  after_reads_at

/-- The rows with three of zeros in front. -/
theorem padded (b : Fin 2) (s : Fin 1027) (e : Fin 2048) :
    (E4 V (Proc.devRef .tc main_v21)) (ix3 b s e) = Spec.pd (inp V) b s.val e := by
  unfold E4
  after_reads_at
  unfold Spec.pd
  by_cases h : 3 ≤ s.val
  · rw [dif_pos ⟨h, by omega⟩, if_pos h, proj_x, Spec.row_of_lt (by omega)]
  · rw [dif_neg (fun q => h q.1), if_neg h, show Shape.Idx.first h_S_ = ix0 from funext fun a => a.elim0, zero3]
    exact int_zero

/-- The convolution. -/
theorem conv (b : Fin 2) (t : Fin 1024) (e : Fin 2048) :
    (E5 V (Proc.devRef .tc main_v53)) (ix3 b t e) = Spec.cv (inp V) b t e := by
  unfold E5
  after_reads_at
  rw [padded, padded, padded, padded]
  rw [k4 V (r := main_arg4), k4 V (r := main_arg5), k3 V, k3 V, k2 V, k2 V, k1 V, k1 V]
  rfl

/-- Its activation. -/
theorem act (b : Fin 2) (t : Fin 1024) (e : Fin 2048) :
    (E6 V (Proc.devRef .tc main_v54)) (ix3 b t e) = Spec.xb (inp V) b t e := by
  unfold E6
  after_reads_at
  rw [conv]
  rfl

theorem arg6 {r : Ref sig .tc} (h1 : r ∉ hostOps0_W := by decide) (h2 : r ∉ hostOps0_1_W := by decide) (h3 : r ∉ hostOps0_2_W := by decide)
    (h4 : r ∉ hostOps0_3_W := by decide) (h5 : r ∉ hostOps0_4_W := by decide) (h6 : r ∉ hostOps0_5_W := by decide) :
    E6 V (Proc.devRef .tc r) = V (Proc.devRef .tc r) := by
  rw [k6 V h6, k5 V h5, k4 V h4, k3 V h3, k2 V h2, k1 V h1]

theorem bmat (b : Fin 2) (t : Fin 1024) (n : Fin 16) :
    (E7 V (Proc.devRef .tc main_v55)) (ix3 b t n) = Spec.bm (inp V) b t n := by
  unfold E7
  after_reads_at
  rw [arg6 V (r := main_arg6)]
  exact Finset.sum_congr rfl fun j _ => congrArg (· * _) (act V b t j)

theorem cmat (b : Fin 2) (t : Fin 1024) (n : Fin 16) :
    (E7 V (Proc.devRef .tc main_v56)) (ix3 b t n) = Spec.cm (inp V) b t n := by
  unfold E7
  after_reads_at
  rw [arg6 V (r := main_arg7)]
  exact Finset.sum_congr rfl fun j _ => congrArg (· * _) (act V b t j)

theorem step (b : Fin 2) (t : Fin 1024) (d : Fin 2048) :
    (E8 V (Proc.devRef .tc main_v61)) (ix3 b t d) = Spec.dl (inp V) b t d := by
  have e : (E7 V (Proc.devRef .tc main_v60)) (ix3 b t d)
      = ∑ j, Spec.xb (inp V) b t j * (inp V).wd (ix2 j d) + (inp V).bd (ix1 d) := by
    unfold E7
    after_reads_at
    rw [arg6 V (r := main_arg8), arg6 V (r := main_arg9)]
    exact congrArg (· + _) (Finset.sum_congr rfl fun j _ => congrArg (· * _) (act V b t j))
  unfold E8
  after_reads_at
  rw [e, if_neg (fun q => q rfl)]
  rfl

/-- The decays, as the loop is given them. -/
theorem decay (b : Fin 2) (t : Fin 1024) (d : Fin 2048) (n : Fin 16) :
    (E9 V (Proc.devRef .tc main_v83_0)) (ix4 t b d n) = Spec.ab (inp V) b t d n := by
  unfold E9
  after_reads_at
  dsimp only [id]
  pointwise
  rw [step, k8 V (r := main_arg10), k7 V, arg6 V]
  rfl

/-- The inputs to the state, as the loop is given them. -/
theorem drive (b : Fin 2) (t : Fin 1024) (d : Fin 2048) (n : Fin 16) :
    (E9 V (Proc.devRef .tc main_v83_1)) (ix4 t b d n) = Spec.bx (inp V) b t d n := by
  unfold E9
  after_reads_at
  dsimp only [id]
  pointwise
  rw [step, k8 V (r := main_v55), bmat, k8 V (r := main_v54), k7 V (r := main_v54), act]
  rfl

/-- The rows of `C`, as the loop is given them. -/
theorem read (b : Fin 2) (t : Fin 1024) (n : Fin 16) :
    (E9 V (Proc.devRef .tc main_v83_2)) (ix3 t b n) = Spec.cm (inp V) b t n := by
  unfold E9
  after_reads_at
  dsimp only [id]
  pointwise
  rw [k8 V (r := main_v56), cmat]

theorem ctr0 : (E9 V (Proc.devRef .tc main_v83_3)) = fun _ => (0#32 : BitVec 32) := by
  funext j
  unfold E9
  after_reads_at
  rfl

theorem state0 (b : Fin 2) (d : Fin 2048) (n : Fin 16) : (E9 V (Proc.devRef .tc main_v83_4)) (ix3 b d n) = (0 : EReal) := by
  unfold E9
  after_reads_at
  show Ideal.ofBits .f32 0#32 = 0
  exact Ideal.ofBits_zero_f32

end Cert.ReferenceIdeal.Val

end
-- ==== Proof.RefLoop.lean ====
module

public import proofs.«01_k».proof.Proof.RefVal
public import Idealize.ShloMosaic.Lib.WordCmp

@[expose] public section

set_option maxRecDepth 16384

noncomputable section

/-! What the reference's loop and the stretches after it leave, read at an index. -/

open Idealize.ShloMosaic Idealize.ShloMosaic.TcCoe Idealize.SL.Sem
open scoped BigOperators

namespace Cert.ReferenceIdeal.Val

open Cert.ReferenceIdeal Cert.ReferenceIdeal.Gen Cert.ReferenceIdeal.Value Cert.ReferenceIdeal.Scan Idealize.ShloMosaic.StableHlo

theorem word_int {k : ℕ} (h : k < 1024) : (BitVec.ofNat 32 k).toInt = (k : Int) := by
  rw [BitVec.toInt_eq_toNat_of_lt (by rw [BitVec.toNat_ofNat]; omega), BitVec.toNat_ofNat, Nat.mod_eq_of_lt (by omega)]

/-- Row `k` of an array of four axes. -/
def r4 (x : FVec Ideal S1024x2x2048x16 .f32) (k : Fin 1024) : FVec Ideal S1x2x2048x16 .f32 := fun j => x (ix4 k (j 1) (j 2) (j 3))
theorem r4_apply (x : FVec Ideal S1024x2x2048x16 .f32) (k : Fin 1024) (b : Fin 2) (d : Fin 2048) (n : Fin 16) :
    r4 x k (ix4 (0 : Fin 1) b d n) = x (ix4 k b d n) := rfl
/-- Row `k` of an array of three axes. -/
def r3 (x : FVec Ideal S1024x2x16 .f32) (k : Fin 1024) : FVec Ideal S1x2x16 .f32 := fun j => x (ix3 k (j 1) (j 2))
theorem r3_apply (x : FVec Ideal S1024x2x16 .f32) (k : Fin 1024) (b : Fin 2) (n : Fin 16) :
    r3 x k (ix3 (0 : Fin 1) b n) = x (ix3 k b n) := rfl

/-- A slice of one row of four axes, the row read from a counter. -/
theorem row4 (x : FVec Ideal S1024x2x2048x16 .f32) (s : Fin 4 → Int) (k : Fin 1024) (e : s = ![(k.val : Int), 0, 0, 0]) (h)
    : Host.dynamicSlice S1x2x2048x16 x s h = r4 x k := by
  funext j
  rw [WordCmp.dynamicSlice_eq_extract S1x2x2048x16 x s h ![k.val, 0, 0, 0] ⟨rfl, fun a => by
    match a with
    | 0 => show k.val + 1 ≤ 1024; omega
    | 1 => show 0 + 2 ≤ 2; omega
    | 2 => show 0 + 2048 ≤ 2048; omega
    | 3 => show 0 + 16 ≤ 16; omega⟩ (fun a => by subst e; match a with | 0 => rfl | 1 => rfl | 2 => rfl | 3 => rfl)]
  refine extractStridedSlice_apply _ _ _ _ _ fun a => ?_
  match a with
  | 0 => show k.val = k.val + (j 0).val; have h0 : (j 0).val < 1 := (j 0).isLt; omega
  | 1 => exact (Nat.zero_add _).symm
  | 2 => exact (Nat.zero_add _).symm
  | 3 => exact (Nat.zero_add _).symm

/-- A slice of one row of three axes, the row read from a counter. -/
theorem row3 (x : FVec Ideal S1024x2x16 .f32) (s : Fin 3 → Int) (k : Fin 1024) (e : s = ![(k.val : Int), 0, 0]) (h)
    : Host.dynamicSlice S1x2x16 x s h = r3 x k := by
  funext j
  rw [WordCmp.dynamicSlice_eq_extract S1x2x16 x s h ![k.val, 0, 0] ⟨rfl, fun a => by
    match a with
    | 0 => show k.val + 1 ≤ 1024; omega
    | 1 => show 0 + 2 ≤ 2; omega
    | 2 => show 0 + 16 ≤ 16; omega⟩ (fun a => by subst e; match a with | 0 => rfl | 1 => rfl | 2 => rfl)]
  refine extractStridedSlice_apply _ _ _ _ _ fun a => ?_
  match a with
  | 0 => show k.val = k.val + (j 0).val; have h0 : (j 0).val < 1 := (j 0).isLt; omega
  | 1 => exact (Nat.zero_add _).symm
  | 2 => exact (Nat.zero_add _).symm

/-- A trip's new state, from arrays. -/
theorem step_h (A U : FVec Ideal S1024x2x2048x16 .f32) (H : FVec Ideal S2x2048x16 .f32) (s : Fin 4 → Int) (k : Fin 1024)
    (e : s = ![(k.val : Int), 0, 0, 0]) (h h' h2 h3) (b : Fin 2) (d : Fin 2048) (n : Fin 16) :
    (addf (mulf (shapeCast S2x2048x16 (Host.dynamicSlice S1x2x2048x16 A s h) h2) H)
      (shapeCast S2x2048x16 (Host.dynamicSlice S1x2x2048x16 U s h') h3)) (ix3 b d n)
      = A (ix4 k b d n) * H (ix3 b d n) + U (ix4 k b d n) := by
  rw [row4 A s k e, row4 U s k e]
  pointwise [r4_apply]

/-- A trip's rows of outputs, from arrays. -/
theorem step_y (Y : FVec Ideal S1024x2x2048 .f32) (H : FVec Ideal S2x2048x16 .f32) (C : FVec Ideal S1024x2x16 .f32)
    (s s' : Fin 3 → Int) (k : Fin 1024) (e : s = ![(k.val : Int), 0, 0]) (e' : s' = ![(k.val : Int), 0, 0]) (h h')
    (t : Fin 1024) (b : Fin 2) (d : Fin 2048) :
    (Host.dynamicUpdateSlice Y (broadcastInDim S1x2x2048 ![1, 2] bcast_S2x2048_S1x2x2048_1_2
        (Host.reduceAdd (mulf H (broadcastInDim S2x2048x16 ![0, 1, 2] bcast_S2x1x16_S2x2048x16_0_1_2 (broadcastInDim S2x1x16 ![0, 2] bcast_S2x16_S2x1x16_0_2
          (shapeCast S2x16 (Host.dynamicSlice S1x2x16 C s h) shapeCasts_S1x2x16_S2x16)))) (constant S_ .f32 0x00000000#32) reducesTo_S2x2048x16_S2x2048_d2 h_S_)) s' h') (ix3 t b d)
      = if t = k then ∑ n, H (ix3 b d n) * C (ix3 k b n) else Y (ix3 t b d) := by
  rw [row3 C s k e]
  refine (congrFun (WordCmp.dynamicUpdateSlice_eq_update Y _ s' h' ![k.val, 0, 0] ⟨rfl, fun a => by
    match a with
    | 0 => show k.val + 1 ≤ 1024; omega
    | 1 => show 0 + 2 ≤ 2; omega
    | 2 => show 0 + 2048 ≤ 2048; omega⟩ (fun a => by subst e'; match a with | 0 => rfl | 1 => rfl | 2 => rfl)) _).trans ?_
  pointwise [r3_apply]
  by_cases q : t = k
  · rw [if_pos q, dif_pos ⟨by omega, by omega⟩]
  · rw [if_neg q, dif_neg fun w => q (Fin.ext (by omega))]

variable (V : Valuation τ sig (Elt Ideal))

section trip
variable (X : Valuation τ sig (Elt Ideal)) (k : Fin 1024)

/-- The carried decays at an index. -/
def cA (t : Fin 1024) (b : Fin 2) (d : Fin 2048) (n : Fin 16) : EReal := (X (Proc.devRef .tc main_v83_0)) (ix4 t b d n)
/-- The carried inputs to the state at an index. -/
def cU (t : Fin 1024) (b : Fin 2) (d : Fin 2048) (n : Fin 16) : EReal := (X (Proc.devRef .tc main_v83_1)) (ix4 t b d n)
/-- The carried rows of `C` at an index. -/
def cC (t : Fin 1024) (b : Fin 2) (n : Fin 16) : EReal := (X (Proc.devRef .tc main_v83_2)) (ix3 t b n)
/-- The carried state at an index. -/
def cH (b : Fin 2) (d : Fin 2048) (n : Fin 16) : EReal := (X (Proc.devRef .tc main_v83_4)) (ix3 b d n)
/-- The carried outputs at an index. -/
def cY (t : Fin 1024) (b : Fin 2) (d : Fin 2048) : EReal := (X (Proc.devRef .tc main_v83_5)) (ix3 t b d)
/-- The new state at an index. -/
def nH (b : Fin 2) (d : Fin 2048) (n : Fin 16) : EReal := (res_main_while0b_v97 X) (ix3 b d n)

variable (hc : X (Proc.devRef .tc main_v83_3) = fun _ => BitVec.ofNat 32 k.val)

include hc in
/-- The state after a trip. -/
theorem next_state (b : Fin 2) (d : Fin 2048) (n : Fin 16) :
    nH X b d n = cA X k b d n * cH X b d n + cU X k b d n := by
  unfold nH res_main_while0b_v97
  rw [hc]
  refine step_h (X (Proc.devRef .tc main_v83_0)) (X (Proc.devRef .tc main_v83_1)) (X (Proc.devRef .tc main_v83_4)) _ k ?_ _ _ _ _ b d n
  funext a
  match a with
  | 0 => exact word_int k.isLt
  | 1 => rfl
  | 2 => rfl
  | 3 => rfl

include hc in
/-- The rows of outputs after a trip: the trip's own row is new, the others are as they were. -/
theorem next_rows (t : Fin 1024) (b : Fin 2) (d : Fin 2048) :
    (step_main_v83_5 X) (ix3 t b d) = if t = k then ∑ n, nH X b d n * cC X k b n else cY X t b d := by
  unfold step_main_v83_5
  rw [hc]
  refine step_y (X (Proc.devRef .tc main_v83_5)) (res_main_while0b_v97 X) (X (Proc.devRef .tc main_v83_2)) _ _ k ?_ ?_ _ _ t b d
  all_goals
    funext a
    match a with
    | 0 => exact word_int k.isLt
    | 1 => rfl
    | 2 => rfl

end trip

/-- The carried contents before trip `k`. -/
def S (k : ℕ) : Valuation τ sig (Elt Ideal) := STEP^[k] (E9 V)

theorem S_succ (k : ℕ) : S V (k + 1) = STEP (S V k) := Function.iterate_succ_apply' _ _ _

theorem S_A : ∀ k, (S V k) (Proc.devRef .tc main_v83_0) = (E9 V) (Proc.devRef .tc main_v83_0)
  | 0 => rfl
  | k + 1 => by rw [S_succ, STEP_main_v83_0, S_A k]
theorem S_U : ∀ k, (S V k) (Proc.devRef .tc main_v83_1) = (E9 V) (Proc.devRef .tc main_v83_1)
  | 0 => rfl
  | k + 1 => by rw [S_succ, STEP_main_v83_1, S_U k]
theorem S_C : ∀ k, (S V k) (Proc.devRef .tc main_v83_2) = (E9 V) (Proc.devRef .tc main_v83_2)
  | 0 => rfl
  | k + 1 => by rw [S_succ, STEP_main_v83_2, S_C k]

/-- The counter counts. -/
theorem S_ctr : ∀ k, (S V k) (Proc.devRef .tc main_v83_3) = fun _ => BitVec.ofNat 32 k
  | 0 => ctr0 V
  | k + 1 => by
    rw [S_succ, STEP_main_v83_3]
    unfold step_main_v83_3
    rw [S_ctr k]
    funext j
    show BitVec.ofNat 32 k + 1#32 = BitVec.ofNat 32 (k + 1)
    rw [BitVec.ofNat_add]

/-- The state before trip `k`. -/
theorem S_H (b : Fin 2) (d : Fin 2048) (n : Fin 16) : ∀ k, k ≤ 1024 → cH (S V k) b d n = Spec.hs (inp V) b d n k
  | 0, _ => state0 V b d n
  | k + 1, h => by
    have q : k < 1024 := h
    have e : cH (S V (k + 1)) b d n = nH (S V k) b d n := by
      unfold cH
      rw [S_succ, STEP_main_v83_4]
      rfl
    rw [e, next_state (S V k) ⟨k, q⟩ (S_ctr V k) b d n, S_H b d n k q.le]
    have eA : cA (S V k) ⟨k, q⟩ b d n = Spec.ab (inp V) b ⟨k, q⟩ d n := by
      unfold cA
      rw [S_A]
      exact decay V b ⟨k, q⟩ d n
    have eU : cU (S V k) ⟨k, q⟩ b d n = Spec.bx (inp V) b ⟨k, q⟩ d n := by
      unfold cU
      rw [S_U]
      exact drive V b ⟨k, q⟩ d n
    rw [eA, eU, Spec.hs, Spec.row_of_lt q]

/-- The rows of outputs that trips before `k` wrote. -/
theorem S_Y (t : Fin 1024) (b : Fin 2) (d : Fin 2048) : ∀ k, k ≤ 1024 → t.val < k → cY (S V k) t b d = Spec.ys (inp V) b t d
  | 0, _, h => absurd h (Nat.not_lt_zero _)
  | k + 1, h, ht => by
    have q : k < 1024 := h
    have e : cY (S V (k + 1)) t b d = (step_main_v83_5 (S V k)) (ix3 t b d) := by
      unfold cY
      rw [S_succ, STEP_main_v83_5]
    rw [e, next_rows (S V k) ⟨k, q⟩ (S_ctr V k) t b d]
    by_cases w : t = ⟨k, q⟩
    · rw [if_pos w]
      subst w
      refine Finset.sum_congr rfl fun n _ => ?_
      have eH : nH (S V k) b d n = Spec.hs (inp V) b d n (k + 1) := by
        rw [← S_H V b d n (k + 1) h]
        unfold cH
        rw [S_succ, STEP_main_v83_4]
        rfl
      have eC : cC (S V k) ⟨k, q⟩ b n = Spec.cm (inp V) b ⟨k, q⟩ n := by
        unfold cC
        rw [S_C]
        exact read V b ⟨k, q⟩ n
      rw [eH, eC]
    · rw [if_neg w]
      exact S_Y t b d k q.le (by
        have : t.val ≠ k := fun z => w (Fin.ext z)
        omega)

section final
variable (m : (ℓ : Loc nD τ sig) → Buf (Elt Ideal) ℓ) (c : Dev nD)

/-- The contents at the loop's exit. -/
def X0 : Valuation τ sig (Elt Ideal) := after condOps (atK m 1024 c)
def X1 : Valuation τ sig (Elt Ideal) := after hostOps0_9 (X0 m c)
def X2 : Valuation τ sig (Elt Ideal) := after hostOps0_10 (X1 m c)
def X3 : Valuation τ sig (Elt Ideal) := after hostOps0_11 (X2 m c)

theorem X3_eq : finalContents condOps preI bodyI postI 1024 m c = X3 m c := rfl

theorem X0_keep (r : Ref sig .tc) (hc : r ∉ condOps_W)
    (h : r ∉ while0Ops0_W ++ while0Ops0_1_W ++ while0Ops0_2_W ++ while0Ops0_3_W ++ while0Ops0_4_W ++ while0Ops0_5_W) :
    X0 m c (Proc.devRef .tc r) = E9 (launchContents m c) (Proc.devRef .tc r) := exit_keep m c r hc h

theorem exit_rows (t : Fin 1024) (b : Fin 2) (d : Fin 2048) :
    (X0 m c (Proc.devRef .tc main_v83_5)) (ix3 t b d) = Spec.ys (inp (launchContents m c)) b t d := by
  rw [show X0 m c (Proc.devRef .tc main_v83_5) = S (launchContents m c) 1024 (Proc.devRef .tc main_v83_5) from
    (cond_keeps (atK m 1024 c) main_v83_5 (by decide)).trans (atK_agree m c 1024 main_v83_5 (by decide))]
  exact S_Y (launchContents m c) t b d 1024 le_rfl t.isLt

theorem exit_act (b : Fin 2) (t : Fin 1024) (d : Fin 2048) :
    (X0 m c (Proc.devRef .tc main_v54)) (ix3 b t d) = Spec.xb (inp (launchContents m c)) b t d := by
  rw [X0_keep m c main_v54 (by decide) (by decide), k9 _, k8 _, k7 _]
  exact act _ b t d

theorem exit_gate (b : Fin 2) (t : Fin 1024) (d : Fin 2048) :
    (X0 m c (Proc.devRef .tc main_v20)) (ix3 b t d) = Spec.zg (inp (launchContents m c)) b t d := by
  rw [X0_keep m c main_v20 (by decide) (by decide), k9 _, k8 _, k7 _, k6 _, k5 _, k4 _]
  exact proj_z _ b t d

theorem exit_arg (r : Ref sig .tc) (hc : r ∉ condOps_W)
    (h : r ∉ while0Ops0_W ++ while0Ops0_1_W ++ while0Ops0_2_W ++ while0Ops0_3_W ++ while0Ops0_4_W ++ while0Ops0_5_W)
    (hp : r ∉ hostOps0_W ++ hostOps0_1_W ++ hostOps0_2_W ++ hostOps0_3_W ++ hostOps0_4_W ++ hostOps0_5_W ++ hostOps0_6_W ++ hostOps0_7_W ++ hostOps0_8_W) :
    X0 m c (Proc.devRef .tc r) = launchContents m c (Proc.devRef .tc r) :=
  (X0_keep m c r hc h).trans (preI_keep (launchContents m c) r hp)

theorem l1 {r : Ref sig .tc} (h : r ∉ hostOps0_9_W := by decide) : X1 m c (Proc.devRef .tc r) = X0 m c (Proc.devRef .tc r) :=
  after_of_writes_sub hostOps0_9 _ hostOps0_9_writes h
theorem l2 {r : Ref sig .tc} (h : r ∉ hostOps0_10_W := by decide) : X2 m c (Proc.devRef .tc r) = X1 m c (Proc.devRef .tc r) :=
  after_of_writes_sub hostOps0_10 _ hostOps0_10_writes h

theorem scanned (b : Fin 2) (t : Fin 1024) (d : Fin 2048) :
    (X1 m c (Proc.devRef .tc main_v88)) (ix3 b t d)
      = Spec.ys (inp (launchContents m c)) b t d + Spec.xb (inp (launchContents m c)) b t d * (inp (launchContents m c)).dp (ix1 d) := by
  unfold X1
  after_reads_at
  rw [exit_rows, exit_act, exit_arg m c main_arg11 (by decide) (by decide) (by decide)]
  rfl

theorem gated (b : Fin 2) (t : Fin 1024) (d : Fin 2048) :
    (X2 m c (Proc.devRef .tc main_v89)) (ix3 b t d) = Spec.silu (Spec.zg (inp (launchContents m c)) b t d) := by
  unfold X2
  after_reads_at
  rw [l1 m c, exit_gate]
  rfl

/-- The reference's result. -/
theorem result_apply (b : Fin 2) (t e : Fin 1024) :
    (finalContents condOps preI bodyI postI 1024 m c (Proc.devRef .tc main_v92)) (ix3 b t e)
      = Spec.out (inp (launchContents m c)) b t e := by
  rw [X3_eq]
  unfold X3
  after_reads_at
  rw [l2 m c (r := main_arg12), l2 m c (r := main_arg0), l2 m c (r := main_v88), l1 m c (r := main_arg12), l1 m c (r := main_arg0),
    exit_arg m c main_arg12 (by decide) (by decide) (by decide), exit_arg m c main_arg0 (by decide) (by decide) (by decide)]
  unfold Spec.out
  refine congrArg₂ (fun a b : EReal => a + b) (Finset.sum_congr rfl fun d _ => ?_) rfl
  have es := congrArg₂ (fun a b : EReal => a * b) (scanned m c b t d) (gated m c b t d)
  exact congrArg (fun a : EReal => a * (inp (launchContents m c)).wo (ix2 d e)) es

end final

end Cert.ReferenceIdeal.Val

end
-- ==== Proof.Equal.lean ====
module

public import proofs.«01_k».proof.Proof.KArr
public import proofs.«01_k».proof.Proof.RefLoop

@[expose] public section

set_option maxRecDepth 16384

noncomputable section

/-! The two programs' results, from equal arguments. -/

namespace Cert.Equal

open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The inputs as the reference's memory holds them. -/
abbrev refInp (c : Dev Cert.ReferenceIdeal.nD) : Spec.Inp := Cert.ReferenceIdeal.Val.inp (StableHlo.launchContents m' c)

/-- Equal inputs give equal results: both are the mathematics' value at every index. -/
theorem results_eq (c : Dev Cert.KernelIdeal.nD) (h : refInp m' c = Cert.KernelIdeal.Val.inp m c) :
    (Cert.KernelIdeal.Scan.result m c : (⟨3, ![2, 1024, 1024]⟩ : Shape).Idx → EReal)
      = StableHlo.finalContents Cert.ReferenceIdeal.Value.condOps Cert.ReferenceIdeal.Value.preI Cert.ReferenceIdeal.Value.bodyI
          Cert.ReferenceIdeal.Value.postI 1024 m' c (Proc.devRef .tc Cert.ReferenceIdeal.main_v92) := by
  funext y
  obtain ⟨b, t, e, rfl⟩ : ∃ (b : Fin 2) (t e : Fin 1024), y = ix3 b t e := ⟨y 0, y 1, y 2, by funext a; fin_cases a <;> rfl⟩
  refine (Cert.KernelIdeal.Val.result_apply m c b t e).trans (Eq.trans ?_ (Cert.ReferenceIdeal.Val.result_apply m' c b t e).symm)
  rw [← h]

end Cert.Equal

end
-- ==== Proof.lean ====
/-
The certificate's claims, from the runs of the three programs.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KRun
public import proofs.«01_k».proof.Proof.KIRun
public import proofs.«01_k».proof.Proof.RefRun
public import proofs.«01_k».proof.Proof.Equal

@[expose] public section

noncomputable section

open Idealize.ShloMosaic Idealize.ShloMosaic.TcCoe Idealize.SL.Sem

namespace Cert.Proof

/-- The frame of `Kernel`: its run with the result forgotten. -/
theorem frame_Kernel : quiescent_Kernel (hKernel := Cert.Kernel.Gen.facts) := fun m g _ =>
  (θ_run _ _ _).mono (fun _ h => ⟨fun c => (h.1 c).2, h.2⟩) (Cert.Kernel.Scan.run m g)

/-- The frame of `KernelIdeal`: its run with the result forgotten. -/
theorem frame_KernelIdeal : quiescent_KernelIdeal (hKernelIdeal := Cert.KernelIdeal.Gen.facts) := fun m g _ =>
  (θ_run _ _ _).mono (fun _ h => ⟨fun c => (h.1 c).2, h.2⟩) (Cert.KernelIdeal.Scan.run m g)

/-- The frame of `ReferenceIdeal`: its run with the result forgotten. -/
theorem frame_ReferenceIdeal : quiescent_ReferenceIdeal (hReferenceIdeal := Cert.ReferenceIdeal.Gen.facts) := fun m g _ =>
  (θ_run _ _ _).mono (fun _ h => ⟨fun c => (h.1 c).2, h.2⟩) (Cert.ReferenceIdeal.Scan.run m g)

/-- The named constant rounds to the word the kernel writes. -/
theorem named : preserves_Kernel_KernelIdeal :=
  IdealRules.named_const.statement Cert.KernelIdeal.κ "log2e" .f32 0x3FB8AA3B#32 (((Real.log 2)⁻¹ : ℝ) : EReal) rfl

/-- From equal arguments both programs end with the same result. -/
theorem equal : algebraic_KernelIdeal_ReferenceIdeal (hKernelIdeal := Cert.KernelIdeal.Gen.facts) (hReferenceIdeal := Cert.ReferenceIdeal.Gen.facts) :=
  fun m g m' g' _ hag => by
    have hi : ∀ c, Cert.Equal.refInp m' c = Cert.KernelIdeal.Val.inp m c := fun c => by
      obtain ⟨h0, h1, h2, h3, h4, h5, h6, h7, h8, h9, h10, h11, h12⟩ := hag c
      exact Cert.Spec.Inp.mk.injEq .. |>.mpr ⟨h0, h1, h2, h3, h4, h5, h6, h7, h8, h9, h10, h11, h12⟩
    exact ⟨fun c => Cert.KernelIdeal.Scan.result m c,
      (θ_run _ _ _).mono (fun _ h => h.1) (Cert.KernelIdeal.Scan.run m g),
      (θ_run _ _ _).mono (fun _ h c => ⟨(h.1 c).1.trans (Cert.Equal.results_eq m m' c (hi c)).symm, (h.1 c).2⟩)
        (Cert.ReferenceIdeal.Scan.run m' g')⟩

theorem claim : Cert.Claim :=
  ⟨Cert.Kernel.Gen.facts, Cert.KernelIdeal.Gen.facts, Cert.ReferenceIdeal.Gen.facts, frame_Kernel, frame_KernelIdeal, frame_ReferenceIdeal, named, equal⟩

end Cert.Proof

end
